-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lone_best [hPre_lone_best : Cert.Pre_lone_best.Facts] (m : (ℓ : Loc Cert.KernelIdeal.nD Cert.KernelIdeal.τ Cert.KernelIdeal.sig) → Buf (Elt Ideal) ℓ) : Prop :=
  ∀ c : Dev Cert.KernelIdeal.nD,
    (Cert.Pre_lone_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_single_best [hPre_single_best : Cert.Pre_single_best.Facts] (m : (ℓ : Loc Cert.KernelIdeal.nD Cert.KernelIdeal.τ Cert.KernelIdeal.sig) → Buf (Elt Ideal) ℓ) : Prop :=
  ∀ c : Dev Cert.KernelIdeal.nD,
    (Cert.Pre_single_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_two_best [hPre_two_best : Cert.Pre_two_best.Facts] (m : (ℓ : Loc Cert.KernelIdeal.nD Cert.KernelIdeal.τ Cert.KernelIdeal.sig) → Buf (Elt Ideal) ℓ) : Prop :=
  ∀ c : Dev Cert.KernelIdeal.nD,
    (Cert.Pre_two_best.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lone_best [hPre_lone_best : Cert.Pre_lone_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lone_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_single_best [hPre_single_best : Cert.Pre_single_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_single_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_two_best [hPre_two_best : Cert.Pre_two_best.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_best.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_lone_best [hKernelIdeal : Cert.KernelIdeal.Facts] [hPre_lone_best : Cert.Pre_lone_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lone_best m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_single_best [hKernelIdeal : Cert.KernelIdeal.Facts] [hPre_single_best : Cert.Pre_single_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_single_best m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_two_best [hKernelIdeal : Cert.KernelIdeal.Facts] [hPre_two_best : Cert.Pre_two_best.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_best m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_lone_best [hReferenceIdeal : Cert.ReferenceIdeal.Facts] [hPre_lone_best : Cert.Pre_lone_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lone_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_single_best [hReferenceIdeal : Cert.ReferenceIdeal.Facts] [hPre_single_best : Cert.Pre_single_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_single_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_two_best [hReferenceIdeal : Cert.ReferenceIdeal.Facts] [hPre_two_best : Cert.Pre_two_best.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_best m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_outright [hKernelIdeal : Cert.KernelIdeal.Facts] [hReferenceIdeal : Cert.ReferenceIdeal.Facts] [hOn_outright : Cert.On_outright.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1024, 1024]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2_0) i = v0 c i)
          ∧ (∀ i : (⟨2, ![512, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v2_3) i = v1 c i)
          ∧ (∀ i : (⟨2, ![8192, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v2_2) i = v2 c i)
          ∧ (∀ i : (⟨2, ![8192, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v2_1) i = v3 c i)
          ∧ (∀ i : (⟨2, ![1, 1]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.KernelIdeal.nD Cert.KernelIdeal.τ).loc Cert.KernelIdeal.main_v2_4) i = v4 c i)
          ∧ (∀ i : (⟨2, ![1, 1]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.KernelIdeal.nD Cert.KernelIdeal.τ).loc Cert.KernelIdeal.main_v2_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1024, 1024]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v39) i = v0 c i)
          ∧ (∀ i : (⟨2, ![512, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v90) i = v1 c i)
          ∧ (∀ i : (⟨2, ![8192, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v22) i = v2 c i)
          ∧ (∀ i : (⟨2, ![8192, 512]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v33) i = v3 c i)
          ∧ (∀ i : (⟨2, ![1, 1]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.ReferenceIdeal.nD Cert.ReferenceIdeal.τ).loc Cert.ReferenceIdeal.main_v134) i = v4 c i)
          ∧ (∀ i : (⟨2, ![1, 1]⟩ : Shape).Idx, (Cert.On_outright.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.ReferenceIdeal.nD Cert.ReferenceIdeal.τ).loc Cert.ReferenceIdeal.main_v135) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_updated_pre_lone_best [hKernelIdeal : Cert.KernelIdeal.Facts] [hReferenceIdeal : Cert.ReferenceIdeal.Facts] [hPre_lone_best : Cert.Pre_lone_best.Facts] [hOn_updated : Cert.On_updated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lone_best m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1024, 1024]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2_0) i = v0 c i)
          ∧ (∀ i : (⟨2, ![512, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v2_3) i = v1 c i)
          ∧ (∀ i : (⟨2, ![8192, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v2_2) i = v2 c i)
          ∧ (∀ i : (⟨2, ![8192, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v2_1) i = v3 c i)
          ∧ (∀ i : (⟨2, ![1, 1]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.KernelIdeal.nD Cert.KernelIdeal.τ).loc Cert.KernelIdeal.main_v2_4) i = v4 c i)
          ∧ (∀ i : (⟨2, ![1, 1]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.KernelIdeal.nD Cert.KernelIdeal.τ).loc Cert.KernelIdeal.main_v2_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1024, 1024]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v39) i = v0 c i)
          ∧ (∀ i : (⟨2, ![512, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v90) i = v1 c i)
          ∧ (∀ i : (⟨2, ![8192, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v22) i = v2 c i)
          ∧ (∀ i : (⟨2, ![8192, 512]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v33) i = v3 c i)
          ∧ (∀ i : (⟨2, ![1, 1]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.ReferenceIdeal.nD Cert.ReferenceIdeal.τ).loc Cert.ReferenceIdeal.main_v134) i = v4 c i)
          ∧ (∀ i : (⟨2, ![1, 1]⟩ : Shape).Idx, (Cert.On_updated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.ReferenceIdeal.nD Cert.ReferenceIdeal.τ).loc Cert.ReferenceIdeal.main_v135) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_on_gathered_pre_single_best [hKernelIdeal : Cert.KernelIdeal.Facts] [hReferenceIdeal : Cert.ReferenceIdeal.Facts] [hPre_single_best : Cert.Pre_single_best.Facts] [hOn_gathered : Cert.On_gathered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_single_best m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 1024, 1024]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2_0) i = v0 c i)
          ∧ (∀ i : (⟨2, ![512, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v2_3) i = v1 c i)
          ∧ (∀ i : (⟨2, ![8192, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v2_2) i = v2 c i)
          ∧ (∀ i : (⟨2, ![8192, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_v2_1) i = v3 c i)
          ∧ (∀ i : (⟨2, ![1, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.KernelIdeal.nD Cert.KernelIdeal.τ).loc Cert.KernelIdeal.main_v2_4) i = v4 c i)
          ∧ (∀ i : (⟨2, ![1, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.KernelIdeal.nD Cert.KernelIdeal.τ).loc Cert.KernelIdeal.main_v2_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 1024, 1024]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v39) i = v0 c i)
          ∧ (∀ i : (⟨2, ![512, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v90) i = v1 c i)
          ∧ (∀ i : (⟨2, ![8192, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v22) i = v2 c i)
          ∧ (∀ i : (⟨2, ![8192, 512]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_v33) i = v3 c i)
          ∧ (∀ i : (⟨2, ![1, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.ReferenceIdeal.nD Cert.ReferenceIdeal.τ).loc Cert.ReferenceIdeal.main_v134) i = v4 c i)
          ∧ (∀ i : (⟨2, ![1, 1]⟩ : Shape).Idx, (Cert.On_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.ReferenceIdeal.nD Cert.ReferenceIdeal.τ).loc Cert.ReferenceIdeal.main_v135) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_two_best [hKernelIdeal : Cert.KernelIdeal.Facts] [hReferenceIdeal : Cert.ReferenceIdeal.Facts] [hPre_two_best : Cert.Pre_two_best.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_best m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_3)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_1)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_3) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_v135) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_lone_best : Cert.Pre_lone_best.Facts) (hPre_single_best : Cert.Pre_single_best.Facts) (hPre_two_best : Cert.Pre_two_best.Facts) (hOn_outright : Cert.On_outright.Facts) (hOn_updated : Cert.On_updated.Facts) (hOn_gathered : Cert.On_gathered.Facts),
    quiescent_Kernel (hKernel := hKernel)
    ∧ quiescent_KernelIdeal (hKernelIdeal := hKernelIdeal)
    ∧ quiescent_KernelIdeal_pre_lone_best (hKernelIdeal := hKernelIdeal) (hPre_lone_best := hPre_lone_best)
    ∧ quiescent_KernelIdeal_pre_single_best (hKernelIdeal := hKernelIdeal) (hPre_single_best := hPre_single_best)
    ∧ quiescent_KernelIdeal_pre_two_best (hKernelIdeal := hKernelIdeal) (hPre_two_best := hPre_two_best)
    ∧ quiescent_ReferenceIdeal (hReferenceIdeal := hReferenceIdeal)
    ∧ quiescent_ReferenceIdeal_pre_lone_best (hReferenceIdeal := hReferenceIdeal) (hPre_lone_best := hPre_lone_best)
    ∧ quiescent_ReferenceIdeal_pre_single_best (hReferenceIdeal := hReferenceIdeal) (hPre_single_best := hPre_single_best)
    ∧ quiescent_ReferenceIdeal_pre_two_best (hReferenceIdeal := hReferenceIdeal) (hPre_two_best := hPre_two_best)
    ∧ preserves_Kernel_KernelIdeal
    ∧ algebraic_KernelIdeal_ReferenceIdeal_on_outright (hKernelIdeal := hKernelIdeal) (hReferenceIdeal := hReferenceIdeal) (hOn_outright := hOn_outright)
    ∧ algebraic_KernelIdeal_ReferenceIdeal_on_updated_pre_lone_best (hKernelIdeal := hKernelIdeal) (hReferenceIdeal := hReferenceIdeal) (hPre_lone_best := hPre_lone_best) (hOn_updated := hOn_updated)
    ∧ algebraic_KernelIdeal_ReferenceIdeal_on_gathered_pre_single_best (hKernelIdeal := hKernelIdeal) (hReferenceIdeal := hReferenceIdeal) (hPre_single_best := hPre_single_best) (hOn_gathered := hOn_gathered)
    ∧ algebraic_KernelIdeal_ReferenceIdeal_pre_two_best (hKernelIdeal := hKernelIdeal) (hReferenceIdeal := hReferenceIdeal) (hPre_two_best := hPre_two_best)
-- ==== On_gathered.lean ====
abbrev S8x512x32x32 : Shape := ⟨4, ![8, 512, 32, 32]⟩
abbrev S512x512 : Shape := ⟨2, ![512, 512]⟩
abbrev S_ : Shape := ⟨0, ![]⟩
abbrev S8x1024x1024 : Shape := ⟨3, ![8, 1024, 1024]⟩
abbrev S8192x512 : Shape := ⟨2, ![8192, 512]⟩
abbrev S1x1 : Shape := ⟨2, ![1, 1]⟩

class Facts : Prop where
  bcast_S_S8x1024x1024 : S_.BroadcastsInDim S8x1024x1024 (![] : Fin 0 → Fin S8x1024x1024.rank)
  bcast_S_S512x512 : S_.BroadcastsInDim S512x512 (![] : Fin 0 → Fin S512x512.rank)
  bcast_S_S8192x512 : S_.BroadcastsInDim S8192x512 (![] : Fin 0 → Fin S8192x512.rank)
  bcast_S_S1x1 : S_.BroadcastsInDim S1x1 (![] : Fin 0 → Fin S1x1.rank)

variable [Facts]

def fn {F : FTy → Type} [FloatOps F] (main_arg0 : FVec F S8x512x32x32 .f32) (main_arg1 : FVec F S512x512 .f32) : IVec S8x1024x1024 1 × IVec S512x512 1 × IVec S8192x512 1 × IVec S8192x512 1 × IVec S1x1 1 × IVec S1x1 1 :=
  let main_c : IVec S_ 1 := constantI S_ 1 1#1
  let main_v0 : IVec S8x1024x1024 1 := broadcastInDim S8x1024x1024 ![] bcast_S_S8x1024x1024 main_c
  let main_c_0 : IVec S_ 1 := constantI S_ 1 1#1
  let main_v1 : IVec S512x512 1 := broadcastInDim S512x512 ![] bcast_S_S512x512 main_c_0
  let main_c_1 : IVec S_ 1 := constantI S_ 1 1#1
  let main_v2 : IVec S8192x512 1 := broadcastInDim S8192x512 ![] bcast_S_S8192x512 main_c_1
  let main_c_2 : IVec S_ 1 := constantI S_ 1 1#1
  let main_v3 : IVec S8192x512 1 := broadcastInDim S8192x512 ![] bcast_S_S8192x512 main_c_2
  let main_c_3 : IVec S_ 1 := constantI S_ 1 1#1
  let main_v4 : IVec S1x1 1 := broadcastInDim S1x1 ![] bcast_S_S1x1 main_c_3
  let main_c_4 : IVec S_ 1 := constantI S_ 1 0#1
  let main_v5 : IVec S1x1 1 := broadcastInDim S1x1 ![] bcast_S_S1x1 main_c_4
  (main_v0, main_v1, main_v2, main_v3, main_v4, main_v5)
-- ==== On_outright.lean ====
abbrev S8x512x32x32 : Shape := ⟨4, ![8, 512, 32, 32]⟩
abbrev S512x512 : Shape := ⟨2, ![512, 512]⟩
abbrev S_ : Shape := ⟨0, ![]⟩
abbrev S8x1024x1024 : Shape := ⟨3, ![8, 1024, 1024]⟩
abbrev S8192x512 : Shape := ⟨2, ![8192, 512]⟩
abbrev S1x1 : Shape := ⟨2, ![1, 1]⟩

class Facts : Prop where
  bcast_S_S8x1024x1024 : S_.BroadcastsInDim S8x1024x1024 (![] : Fin 0 → Fin S8x1024x1024.rank)
  bcast_S_S512x512 : S_.BroadcastsInDim S512x512 (![] : Fin 0 → Fin S512x512.rank)
  bcast_S_S8192x512 : S_.BroadcastsInDim S8192x512 (![] : Fin 0 → Fin S8192x512.rank)
  bcast_S_S1x1 : S_.BroadcastsInDim S1x1 (![] : Fin 0 → Fin S1x1.rank)

variable [Facts]

def fn {F : FTy → Type} [FloatOps F] (main_arg0 : FVec F S8x512x32x32 .f32) (main_arg1 : FVec F S512x512 .f32) : IVec S8x1024x1024 1 × IVec S512x512 1 × IVec S8192x512 1 × IVec S8192x512 1 × IVec S1x1 1 × IVec S1x1 1 :=
  let main_c : IVec S_ 1 := constantI S_ 1 1#1
  let main_v0 : IVec S8x1024x1024 1 := broadcastInDim S8x1024x1024 ![] bcast_S_S8x1024x1024 main_c
  let main_c_0 : IVec S_ 1 := constantI S_ 1 0#1
  let main_v1 : IVec S512x512 1 := broadcastInDim S512x512 ![] bcast_S_S512x512 main_c_0
  let main_c_1 : IVec S_ 1 := constantI S_ 1 1#1
  let main_v2 : IVec S8192x512 1 := broadcastInDim S8192x512 ![] bcast_S_S8192x512 main_c_1
  let main_c_2 : IVec S_ 1 := constantI S_ 1 1#1
  let main_v3 : IVec S8192x512 1 := broadcastInDim S8192x512 ![] bcast_S_S8192x512 main_c_2
  let main_c_3 : IVec S_ 1 := constantI S_ 1 0#1
  let main_v4 : IVec S1x1 1 := broadcastInDim S1x1 ![] bcast_S_S1x1 main_c_3
  let main_c_4 : IVec S_ 1 := constantI S_ 1 0#1
  let main_v5 : IVec S1x1 1 := broadcastInDim S1x1 ![] bcast_S_S1x1 main_c_4
  (main_v0, main_v1, main_v2, main_v3, main_v4, main_v5)
-- ==== On_updated.lean ====
abbrev S8x512x32x32 : Shape := ⟨4, ![8, 512, 32, 32]⟩
abbrev S512x512 : Shape := ⟨2, ![512, 512]⟩
abbrev S_ : Shape := ⟨0, ![]⟩
abbrev S8x1024x1024 : Shape := ⟨3, ![8, 1024, 1024]⟩
abbrev S8192x512 : Shape := ⟨2, ![8192, 512]⟩
abbrev S1x1 : Shape := ⟨2, ![1, 1]⟩

class Facts : Prop where
  bcast_S_S8x1024x1024 : S_.BroadcastsInDim S8x1024x1024 (![] : Fin 0 → Fin S8x1024x1024.rank)
  bcast_S_S512x512 : S_.BroadcastsInDim S512x512 (![] : Fin 0 → Fin S512x512.rank)
  bcast_S_S8192x512 : S_.BroadcastsInDim S8192x512 (![] : Fin 0 → Fin S8192x512.rank)
  bcast_S_S1x1 : S_.BroadcastsInDim S1x1 (![] : Fin 0 → Fin S1x1.rank)

variable [Facts]

def fn {F : FTy → Type} [FloatOps F] (main_arg0 : FVec F S8x512x32x32 .f32) (main_arg1 : FVec F S512x512 .f32) : IVec S8x1024x1024 1 × IVec S512x512 1 × IVec S8192x512 1 × IVec S8192x512 1 × IVec S1x1 1 × IVec S1x1 1 :=
  let main_c : IVec S_ 1 := constantI S_ 1 1#1
  let main_v0 : IVec S8x1024x1024 1 := broadcastInDim S8x1024x1024 ![] bcast_S_S8x1024x1024 main_c
  let main_c_0 : IVec S_ 1 := constantI S_ 1 1#1
  let main_v1 : IVec S512x512 1 := broadcastInDim S512x512 ![] bcast_S_S512x512 main_c_0
  let main_c_1 : IVec S_ 1 := constantI S_ 1 1#1
  let main_v2 : IVec S8192x512 1 := broadcastInDim S8192x512 ![] bcast_S_S8192x512 main_c_1
  let main_c_2 : IVec S_ 1 := constantI S_ 1 1#1
  let main_v3 : IVec S8192x512 1 := broadcastInDim S8192x512 ![] bcast_S_S8192x512 main_c_2
  let main_c_3 : IVec S_ 1 := constantI S_ 1 0#1
  let main_v4 : IVec S1x1 1 := broadcastInDim S1x1 ![] bcast_S_S1x1 main_c_3
  let main_c_4 : IVec S_ 1 := constantI S_ 1 0#1
  let main_v5 : IVec S1x1 1 := broadcastInDim S1x1 ![] bcast_S_S1x1 main_c_4
  (main_v0, main_v1, main_v2, main_v3, main_v4, main_v5)
-- ==== Pre_lone_best.lean ====
abbrev S8x512x32x32 : Shape := ⟨4, ![8, 512, 32, 32]⟩
abbrev S512x512 : Shape := ⟨2, ![512, 512]⟩
abbrev S_ : Shape := ⟨0, ![]⟩
abbrev S8x32x32 : Shape := ⟨3, ![8, 32, 32]⟩
abbrev S8x1x32x32 : Shape := ⟨4, ![8, 1, 32, 32]⟩
abbrev S8x32x32x512 : Shape := ⟨4, ![8, 32, 32, 512]⟩
abbrev S8192x512 : Shape := ⟨2, ![8192, 512]⟩
abbrev S8192 : Shape := ⟨1, ![8192]⟩
abbrev S8192x1 : Shape := ⟨2, ![8192, 1]⟩

class Facts : Prop where
  reducesTo_S8x512x32x32_S8x32x32_d1 : S8x512x32x32.ReducesTo [1] S8x32x32
  h_S_ : 0 < S_.numel
  bcast_S8x32x32_S8x1x32x32_0_2_3 : S8x32x32.BroadcastsInDim S8x1x32x32 (![0, 2, 3] : Fin 3 → Fin S8x1x32x32.rank)
  bcast_S_S8x1x32x32 : S_.BroadcastsInDim S8x1x32x32 (![] : Fin 0 → Fin S8x1x32x32.rank)
  bcast_S8x1x32x32_S8x512x32x32_0_1_2_3 : S8x1x32x32.BroadcastsInDim S8x512x32x32 (![0, 1, 2, 3] : Fin 4 → Fin S8x512x32x32.rank)
  transposes_S8x512x32x32_S8x32x32x512_0_2_3_1 : S8x512x32x32.Transposes [0, 2, 3, 1] S8x32x32x512
  transposes_S512x512_S512x512_1_0 : S512x512.Transposes [1, 0] S512x512
  shapeCasts_S8x32x32x512_S8192x512 : S8x32x32x512.ShapeCasts S8192x512
  reducesTo_S8192x512_S8192_d1 : S8192x512.ReducesTo [1] S8192
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S_S512x512 : S_.BroadcastsInDim S512x512 (![] : Fin 0 → Fin S512x512.rank)
  reducesTo_S512x512_S_d0_1 : S512x512.ReducesTo [0, 1] S_
  bcast_S_S8192 : S_.BroadcastsInDim S8192 (![] : Fin 0 → Fin S8192.rank)
  reducesTo_S8192_S_d0 : S8192.ReducesTo [0] S_
  dot_S8x32x32x512_S512x512_S8x32x32x512_3_0_012_1_n_n_wf : DotDims.WF S8x32x32x512 S512x512 S8x32x32x512 [3] [0] [0, 1, 2] [1] [] []

variable [Facts]

def dot_S8x32x32x512_S512x512_S8x32x32x512_3_0_012_1_n_n : DotDims S8x32x32x512 S512x512 S8x32x32x512 where
  lhsContracting := [3]
  rhsContracting := [0]
  lhsNonContracting := [0, 1, 2]
  rhsNonContracting := [1]
  lhsBatch := []
  rhsBatch := []
  wf := dot_S8x32x32x512_S512x512_S8x32x32x512_3_0_012_1_n_n_wf
def fn_where {F : FTy → Type} [FloatOps F] (arg0 : IVec S8192x512 1) (arg1 : FVec F S_ .f32) (arg2 : FVec F S_ .f32) : FVec F S8192x512 .f32 :=
  let v0 : FVec F S8192x512 .f32 := broadcastInDim S8192x512 ![] bcast_S_S8192x512 arg1
  let v1 : FVec F S8192x512 .f32 := broadcastInDim S8192x512 ![] bcast_S_S8192x512 arg2
  let v2 : FVec F S8192x512 .f32 := select arg0 v0 v1
  v2

def fn_part1 {F : FTy → Type} [FloatOps F] (main_arg1 : FVec F S512x512 .f32) (main_v17 : FVec F S8192x512 .f32) (main_cst_4 : FVec F S_ .f32) : IVec S_ 1 :=
  let main_v18 : FVec F S8192 .f32 := (fun x v => Host.reduceAdd x v reducesTo_S8192x512_S8192_d1 h_S_) main_v17 main_cst_4
  let main_v19 : FVec F S512x512 .f32 := Host.absf main_arg1
  let main_cst_5 : FVec F S_ .f32 := constant S_ .f32 0x7F800000#32
  let main_v20 : FVec F S512x512 .f32 := broadcastInDim S512x512 ![] bcast_S_S512x512 main_cst_5
  let main_v21 : IVec S512x512 1 := cmpf .olt main_v19 main_v20
  let main_c : IVec S_ 1 := constantI S_ 1 1#1
  let main_v22 : IVec S_ 1 := (fun x v => Host.reduce IntOp.andi x v reducesTo_S512x512_S_d0_1 h_S_) main_v21 main_c
  let main_cst_6 : FVec F S_ .f32 := constant S_ .f32 0x3F800000#32
  let main_v23 : FVec F S8192 .f32 := broadcastInDim S8192 ![] bcast_S_S8192 main_cst_6
  let main_v24 : IVec S8192 1 := cmpf .oeq main_v18 main_v23
  let main_c_7 : IVec S_ 1 := constantI S_ 1 1#1
  let main_v25 : IVec S_ 1 := (fun x v => Host.reduce IntOp.andi x v reducesTo_S8192_S_d0 h_S_) main_v24 main_c_7
  let main_v26 : IVec S_ 1 := andi main_v22 main_v25
  main_v26

def fn {F : FTy → Type} [FloatOps F] (main_arg0 : FVec F S8x512x32x32 .f32) (main_arg1 : FVec F S512x512 .f32) : IVec S_ 1 :=
  let main_v0 : FVec F S8x512x32x32 .f32 := mulf main_arg0 main_arg0
  let main_cst : FVec F S_ .f32 := constant S_ .f32 0x00000000#32
  let main_v1 : FVec F S8x32x32 .f32 := (fun x v => Host.reduceAdd x v reducesTo_S8x512x32x32_S8x32x32_d1 h_S_) main_v0 main_cst
  let main_v2 : FVec F S8x1x32x32 .f32 := broadcastInDim S8x1x32x32 ![0, 2, 3] bcast_S8x32x32_S8x1x32x32_0_2_3 main_v1
  let main_v3 : FVec F S8x1x32x32 .f32 := Host.sqrt main_v2
  let main_cst_0 : FVec F S_ .f32 := constant S_ .f32 0x2B8CBCCC#32
  let main_v4 : FVec F S8x1x32x32 .f32 := broadcastInDim S8x1x32x32 ![] bcast_S_S8x1x32x32 main_cst_0
  let main_v5 : FVec F S8x1x32x32 .f32 := maximumf main_v3 main_v4
  let main_v6 : FVec F S8x512x32x32 .f32 := broadcastInDim S8x512x32x32 ![0, 1, 2, 3] bcast_S8x1x32x32_S8x512x32x32_0_1_2_3 main_v5
  let main_v7 : FVec F S8x512x32x32 .f32 := Host.divf main_arg0 main_v6
  let main_v8 : FVec F S8x32x32x512 .f32 := (transpose S8x32x32x512 [0, 2, 3, 1] · transposes_S8x512x32x32_S8x32x32x512_0_2_3_1) main_v7
  let main_v9 : FVec F S512x512 .f32 := (transpose S512x512 [1, 0] · transposes_S512x512_S512x512_1_0) main_arg1
  let main_v10 : FVec F S8x32x32x512 .f32 := (fun l r => Host.dotGeneral dot_S8x32x32x512_S512x512_S8x32x32x512_3_0_012_1_n_n none l r) main_v8 main_v9
  let main_v11 : FVec F S8192x512 .f32 := shapeCast S8192x512 main_v10 shapeCasts_S8x32x32x512_S8192x512
  let main_cst_1 : FVec F S_ .f32 := constant S_ .f32 0xFF800000#32
  let main_v12 : FVec F S8192 .f32 := (fun x v => Host.reduce FloatOps.maximumf x v reducesTo_S8192x512_S8192_d1 h_S_) main_v11 main_cst_1
  let main_v13 : FVec F S8192x1 .f32 := broadcastInDim S8192x1 ![0] bcast_S8192_S8192x1_0 main_v12
  let main_v14 : FVec F S8192x512 .f32 := broadcastInDim S8192x512 ![0, 1] bcast_S8192x1_S8192x512_0_1 main_v13
  let main_v15 : IVec S8192x512 1 := cmpf .oeq main_v11 main_v14
  let main_cst_2 : FVec F S_ .f32 := constant S_ .f32 0x3F800000#32
  let main_cst_3 : FVec F S_ .f32 := constant S_ .f32 0x00000000#32
  let main_v16 : FVec F S8192x512 .f32 := fn_where (F := F) main_v15 main_cst_2 main_cst_3
  let main_v17 : FVec F S8192x512 .f32 := id main_v16
  let main_cst_4 : FVec F S_ .f32 := constant S_ .f32 0x00000000#32
  fn_part1 (F := F) main_arg1 main_v17 main_cst_4
-- ==== Pre_single_best.lean ====
abbrev S8x512x32x32 : Shape := ⟨4, ![8, 512, 32, 32]⟩
abbrev S512x512 : Shape := ⟨2, ![512, 512]⟩
abbrev S_ : Shape := ⟨0, ![]⟩
abbrev S8x32x32 : Shape := ⟨3, ![8, 32, 32]⟩
abbrev S8x1x32x32 : Shape := ⟨4, ![8, 1, 32, 32]⟩
abbrev S8x32x32x512 : Shape := ⟨4, ![8, 32, 32, 512]⟩
abbrev S8192x512 : Shape := ⟨2, ![8192, 512]⟩
abbrev S8192 : Shape := ⟨1, ![8192]⟩
abbrev S8192x1 : Shape := ⟨2, ![8192, 1]⟩

class Facts : Prop where
  reducesTo_S8x512x32x32_S8x32x32_d1 : S8x512x32x32.ReducesTo [1] S8x32x32
  h_S_ : 0 < S_.numel
  bcast_S8x32x32_S8x1x32x32_0_2_3 : S8x32x32.BroadcastsInDim S8x1x32x32 (![0, 2, 3] : Fin 3 → Fin S8x1x32x32.rank)
  bcast_S_S8x1x32x32 : S_.BroadcastsInDim S8x1x32x32 (![] : Fin 0 → Fin S8x1x32x32.rank)
  bcast_S8x1x32x32_S8x512x32x32_0_1_2_3 : S8x1x32x32.BroadcastsInDim S8x512x32x32 (![0, 1, 2, 3] : Fin 4 → Fin S8x512x32x32.rank)
  transposes_S8x512x32x32_S8x32x32x512_0_2_3_1 : S8x512x32x32.Transposes [0, 2, 3, 1] S8x32x32x512
  transposes_S512x512_S512x512_1_0 : S512x512.Transposes [1, 0] S512x512
  shapeCasts_S8x32x32x512_S8192x512 : S8x32x32x512.ShapeCasts S8192x512
  reducesTo_S8192x512_S8192_d1 : S8192x512.ReducesTo [1] S8192
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S_S512x512 : S_.BroadcastsInDim S512x512 (![] : Fin 0 → Fin S512x512.rank)
  reducesTo_S512x512_S_d0_1 : S512x512.ReducesTo [0, 1] S_
  reducesTo_S8x1x32x32_S_d0_1_2_3 : S8x1x32x32.ReducesTo [0, 1, 2, 3] S_
  bcast_S_S8192 : S_.BroadcastsInDim S8192 (![] : Fin 0 → Fin S8192.rank)
  reducesTo_S8192_S_d0 : S8192.ReducesTo [0] S_
  dot_S8x32x32x512_S512x512_S8x32x32x512_3_0_012_1_n_n_wf : DotDims.WF S8x32x32x512 S512x512 S8x32x32x512 [3] [0] [0, 1, 2] [1] [] []

variable [Facts]

def dot_S8x32x32x512_S512x512_S8x32x32x512_3_0_012_1_n_n : DotDims S8x32x32x512 S512x512 S8x32x32x512 where
  lhsContracting := [3]
  rhsContracting := [0]
  lhsNonContracting := [0, 1, 2]
  rhsNonContracting := [1]
  lhsBatch := []
  rhsBatch := []
  wf := dot_S8x32x32x512_S512x512_S8x32x32x512_3_0_012_1_n_n_wf
def fn_where {F : FTy → Type} [FloatOps F] (arg0 : IVec S8192x512 1) (arg1 : FVec F S_ .f32) (arg2 : FVec F S_ .f32) : FVec F S8192x512 .f32 :=
  let v0 : FVec F S8192x512 .f32 := broadcastInDim S8192x512 ![] bcast_S_S8192x512 arg1
  let v1 : FVec F S8192x512 .f32 := broadcastInDim S8192x512 ![] bcast_S_S8192x512 arg2
  let v2 : FVec F S8192x512 .f32 := select arg0 v0 v1
  v2

def fn_part1 {F : FTy → Type} [FloatOps F] (main_arg1 : FVec F S512x512 .f32) (main_v3 : FVec F S8x1x32x32 .f32) (main_v17 : FVec F S8192x512 .f32) (main_cst_4 : FVec F S_ .f32) : IVec S_ 1 :=
  let main_v18 : FVec F S8192 .f32 := (fun x v => Host.reduceAdd x v reducesTo_S8192x512_S8192_d1 h_S_) main_v17 main_cst_4
  let main_v19 : FVec F S512x512 .f32 := Host.absf main_arg1
  let main_cst_5 : FVec F S_ .f32 := constant S_ .f32 0x7F800000#32
  let main_v20 : FVec F S512x512 .f32 := broadcastInDim S512x512 ![] bcast_S_S512x512 main_cst_5
  let main_v21 : IVec S512x512 1 := cmpf .olt main_v19 main_v20
  let main_c : IVec S_ 1 := constantI S_ 1 1#1
  let main_v22 : IVec S_ 1 := (fun x v => Host.reduce IntOp.andi x v reducesTo_S512x512_S_d0_1 h_S_) main_v21 main_c
  let main_cst_6 : FVec F S_ .f32 := constant S_ .f32 0x2B8CBCCC#32
  let main_v23 : FVec F S8x1x32x32 .f32 := broadcastInDim S8x1x32x32 ![] bcast_S_S8x1x32x32 main_cst_6
  let main_v24 : IVec S8x1x32x32 1 := cmpf .oge main_v3 main_v23
  let main_c_7 : IVec S_ 1 := constantI S_ 1 1#1
  let main_v25 : IVec S_ 1 := (fun x v => Host.reduce IntOp.andi x v reducesTo_S8x1x32x32_S_d0_1_2_3 h_S_) main_v24 main_c_7
  let main_v26 : IVec S_ 1 := andi main_v22 main_v25
  let main_cst_8 : FVec F S_ .f32 := constant S_ .f32 0x3F800000#32
  let main_v27 : FVec F S8192 .f32 := broadcastInDim S8192 ![] bcast_S_S8192 main_cst_8
  let main_v28 : IVec S8192 1 := cmpf .oeq main_v18 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v26 main_v29
  main_v30

def fn {F : FTy → Type} [FloatOps F] (main_arg0 : FVec F S8x512x32x32 .f32) (main_arg1 : FVec F S512x512 .f32) : IVec S_ 1 :=
  let main_v0 : FVec F S8x512x32x32 .f32 := mulf main_arg0 main_arg0
  let main_cst : FVec F S_ .f32 := constant S_ .f32 0x00000000#32
  let main_v1 : FVec F S8x32x32 .f32 := (fun x v => Host.reduceAdd x v reducesTo_S8x512x32x32_S8x32x32_d1 h_S_) main_v0 main_cst
  let main_v2 : FVec F S8x1x32x32 .f32 := broadcastInDim S8x1x32x32 ![0, 2, 3] bcast_S8x32x32_S8x1x32x32_0_2_3 main_v1
  let main_v3 : FVec F S8x1x32x32 .f32 := Host.sqrt main_v2
  let main_cst_0 : FVec F S_ .f32 := constant S_ .f32 0x2B8CBCCC#32
  let main_v4 : FVec F S8x1x32x32 .f32 := broadcastInDim S8x1x32x32 ![] bcast_S_S8x1x32x32 main_cst_0
  let main_v5 : FVec F S8x1x32x32 .f32 := maximumf main_v3 main_v4
  let main_v6 : FVec F S8x512x32x32 .f32 := broadcastInDim S8x512x32x32 ![0, 1, 2, 3] bcast_S8x1x32x32_S8x512x32x32_0_1_2_3 main_v5
  let main_v7 : FVec F S8x512x32x32 .f32 := Host.divf main_arg0 main_v6
  let main_v8 : FVec F S8x32x32x512 .f32 := (transpose S8x32x32x512 [0, 2, 3, 1] · transposes_S8x512x32x32_S8x32x32x512_0_2_3_1) main_v7
  let main_v9 : FVec F S512x512 .f32 := (transpose S512x512 [1, 0] · transposes_S512x512_S512x512_1_0) main_arg1
  let main_v10 : FVec F S8x32x32x512 .f32 := (fun l r => Host.dotGeneral dot_S8x32x32x512_S512x512_S8x32x32x512_3_0_012_1_n_n none l r) main_v8 main_v9
  let main_v11 : FVec F S8192x512 .f32 := shapeCast S8192x512 main_v10 shapeCasts_S8x32x32x512_S8192x512
  let main_cst_1 : FVec F S_ .f32 := constant S_ .f32 0xFF800000#32
  let main_v12 : FVec F S8192 .f32 := (fun x v => Host.reduce FloatOps.maximumf x v reducesTo_S8192x512_S8192_d1 h_S_) main_v11 main_cst_1
  let main_v13 : FVec F S8192x1 .f32 := broadcastInDim S8192x1 ![0] bcast_S8192_S8192x1_0 main_v12
  let main_v14 : FVec F S8192x512 .f32 := broadcastInDim S8192x512 ![0, 1] bcast_S8192x1_S8192x512_0_1 main_v13
  let main_v15 : IVec S8192x512 1 := cmpf .oeq main_v11 main_v14
  let main_cst_2 : FVec F S_ .f32 := constant S_ .f32 0x3F800000#32
  let main_cst_3 : FVec F S_ .f32 := constant S_ .f32 0x00000000#32
  let main_v16 : FVec F S8192x512 .f32 := fn_where (F := F) main_v15 main_cst_2 main_cst_3
  let main_v17 : FVec F S8192x512 .f32 := id main_v16
  let main_cst_4 : FVec F S_ .f32 := constant S_ .f32 0x00000000#32
  fn_part1 (F := F) main_arg1 main_v3 main_v17 main_cst_4
-- ==== Pre_two_best.lean ====
abbrev S8x512x32x32 : Shape := ⟨4, ![8, 512, 32, 32]⟩
abbrev S512x512 : Shape := ⟨2, ![512, 512]⟩
abbrev S_ : Shape := ⟨0, ![]⟩
abbrev S8x32x32 : Shape := ⟨3, ![8, 32, 32]⟩
abbrev S8x1x32x32 : Shape := ⟨4, ![8, 1, 32, 32]⟩
abbrev S8x32x32x512 : Shape := ⟨4, ![8, 32, 32, 512]⟩
abbrev S8192x512 : Shape := ⟨2, ![8192, 512]⟩
abbrev S8192 : Shape := ⟨1, ![8192]⟩
abbrev S8192x1 : Shape := ⟨2, ![8192, 1]⟩

class Facts : Prop where
  reducesTo_S8x512x32x32_S8x32x32_d1 : S8x512x32x32.ReducesTo [1] S8x32x32
  h_S_ : 0 < S_.numel
  bcast_S8x32x32_S8x1x32x32_0_2_3 : S8x32x32.BroadcastsInDim S8x1x32x32 (![0, 2, 3] : Fin 3 → Fin S8x1x32x32.rank)
  bcast_S_S8x1x32x32 : S_.BroadcastsInDim S8x1x32x32 (![] : Fin 0 → Fin S8x1x32x32.rank)
  bcast_S8x1x32x32_S8x512x32x32_0_1_2_3 : S8x1x32x32.BroadcastsInDim S8x512x32x32 (![0, 1, 2, 3] : Fin 4 → Fin S8x512x32x32.rank)
  transposes_S8x512x32x32_S8x32x32x512_0_2_3_1 : S8x512x32x32.Transposes [0, 2, 3, 1] S8x32x32x512
  transposes_S512x512_S512x512_1_0 : S512x512.Transposes [1, 0] S512x512
  shapeCasts_S8x32x32x512_S8192x512 : S8x32x32x512.ShapeCasts S8192x512
  reducesTo_S8192x512_S8192_d1 : S8192x512.ReducesTo [1] S8192
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S_S512x512 : S_.BroadcastsInDim S512x512 (![] : Fin 0 → Fin S512x512.rank)
  reducesTo_S512x512_S_d0_1 : S512x512.ReducesTo [0, 1] S_
  reducesTo_S8x1x32x32_S_d0_1_2_3 : S8x1x32x32.ReducesTo [0, 1, 2, 3] S_
  bcast_S_S8192 : S_.BroadcastsInDim S8192 (![] : Fin 0 → Fin S8192.rank)
  reducesTo_S8192_S_d0 : S8192.ReducesTo [0] S_
  dot_S8x32x32x512_S512x512_S8x32x32x512_3_0_012_1_n_n_wf : DotDims.WF S8x32x32x512 S512x512 S8x32x32x512 [3] [0] [0, 1, 2] [1] [] []

variable [Facts]

def dot_S8x32x32x512_S512x512_S8x32x32x512_3_0_012_1_n_n : DotDims S8x32x32x512 S512x512 S8x32x32x512 where
  lhsContracting := [3]
  rhsContracting := [0]
  lhsNonContracting := [0, 1, 2]
  rhsNonContracting := [1]
  lhsBatch := []
  rhsBatch := []
  wf := dot_S8x32x32x512_S512x512_S8x32x32x512_3_0_012_1_n_n_wf
def fn_where {F : FTy → Type} [FloatOps F] (arg0 : IVec S8192x512 1) (arg1 : FVec F S_ .f32) (arg2 : FVec F S_ .f32) : FVec F S8192x512 .f32 :=
  let v0 : FVec F S8192x512 .f32 := broadcastInDim S8192x512 ![] bcast_S_S8192x512 arg1
  let v1 : FVec F S8192x512 .f32 := broadcastInDim S8192x512 ![] bcast_S_S8192x512 arg2
  let v2 : FVec F S8192x512 .f32 := select arg0 v0 v1
  v2

def fn_where_0 {F : FTy → Type} [FloatOps F] (arg0 : IVec S8192x512 1) (arg1 : FVec F S_ .f32) (arg2 : FVec F S8192x512 .f32) : FVec F S8192x512 .f32 :=
  let v0 : FVec F S_ .f32 := id arg1
  let v1 : FVec F S8192x512 .f32 := broadcastInDim S8192x512 ![] bcast_S_S8192x512 v0
  let v2 : FVec F S8192x512 .f32 := select arg0 v1 arg2
  v2

def fn_part2 {F : FTy → Type} [FloatOps F] (main_v3 : FVec F S8x1x32x32 .f32) (main_v18 : FVec F S8192 .f32) (main_v28 : FVec F S8192 .f32) (main_v32 : IVec S_ 1) (main_v33 : FVec F S8x1x32x32 .f32) : IVec S_ 1 :=
  let main_v34 : IVec S8x1x32x32 1 := cmpf .oge main_v3 main_v33
  let main_c_12 : IVec S_ 1 := constantI S_ 1 1#1
  let main_v35 : IVec S_ 1 := (fun x v => Host.reduce IntOp.andi x v reducesTo_S8x1x32x32_S_d0_1_2_3 h_S_) main_v34 main_c_12
  let main_v36 : IVec S_ 1 := andi main_v32 main_v35
  let main_cst_13 : FVec F S_ .f32 := constant S_ .f32 0x3F800000#32
  let main_v37 : FVec F S8192 .f32 := broadcastInDim S8192 ![] bcast_S_S8192 main_cst_13
  let main_v38 : IVec S8192 1 := cmpf .oeq main_v18 main_v37
  let main_c_14 : IVec S_ 1 := constantI S_ 1 1#1
  let main_v39 : IVec S_ 1 := (fun x v => Host.reduce IntOp.andi x v reducesTo_S8192_S_d0 h_S_) main_v38 main_c_14
  let main_v40 : IVec S_ 1 := andi main_v36 main_v39
  let main_cst_15 : FVec F S_ .f32 := constant S_ .f32 0x3F800000#32
  let main_v41 : FVec F S8192 .f32 := broadcastInDim S8192 ![] bcast_S_S8192 main_cst_15
  let main_v42 : IVec S8192 1 := cmpf .oeq main_v28 main_v41
  let main_c_16 : IVec S_ 1 := constantI S_ 1 1#1
  let main_v43 : IVec S_ 1 := (fun x v => Host.reduce IntOp.andi x v reducesTo_S8192_S_d0 h_S_) main_v42 main_c_16
  let main_v44 : IVec S_ 1 := andi main_v40 main_v43
  main_v44

def fn_part1 {F : FTy → Type} [FloatOps F] (main_arg1 : FVec F S512x512 .f32) (main_v3 : FVec F S8x1x32x32 .f32) (main_v11 : FVec F S8192x512 .f32) (main_v13 : FVec F S8192x1 .f32) (main_v17 : FVec F S8192x512 .f32) (main_cst_4 : FVec F S_ .f32) : IVec S_ 1 :=
  let main_v18 : FVec F S8192 .f32 := (fun x v => Host.reduceAdd x v reducesTo_S8192x512_S8192_d1 h_S_) main_v17 main_cst_4
  let main_v19 : FVec F S8192x512 .f32 := broadcastInDim S8192x512 ![0, 1] bcast_S8192x1_S8192x512_0_1 main_v13
  let main_v20 : IVec S8192x512 1 := cmpf .oeq main_v11 main_v19
  let main_cst_5 : FVec F S_ .f32 := constant S_ .f32 0xFF800000#32
  let main_v21 : FVec F S8192x512 .f32 := fn_where_0 (F := F) main_v20 main_cst_5 main_v11
  let main_cst_6 : FVec F S_ .f32 := constant S_ .f32 0xFF800000#32
  let main_v22 : FVec F S8192 .f32 := (fun x v => Host.reduce FloatOps.maximumf x v reducesTo_S8192x512_S8192_d1 h_S_) main_v21 main_cst_6
  let main_v23 : FVec F S8192x1 .f32 := broadcastInDim S8192x1 ![0] bcast_S8192_S8192x1_0 main_v22
  let main_v24 : FVec F S8192x512 .f32 := broadcastInDim S8192x512 ![0, 1] bcast_S8192x1_S8192x512_0_1 main_v23
  let main_v25 : IVec S8192x512 1 := cmpf .oeq main_v21 main_v24
  let main_cst_7 : FVec F S_ .f32 := constant S_ .f32 0x3F800000#32
  let main_cst_8 : FVec F S_ .f32 := constant S_ .f32 0x00000000#32
  let main_v26 : FVec F S8192x512 .f32 := fn_where (F := F) main_v25 main_cst_7 main_cst_8
  let main_v27 : FVec F S8192x512 .f32 := id main_v26
  let main_cst_9 : FVec F S_ .f32 := constant S_ .f32 0x00000000#32
  let main_v28 : FVec F S8192 .f32 := (fun x v => Host.reduceAdd x v reducesTo_S8192x512_S8192_d1 h_S_) main_v27 main_cst_9
  let main_v29 : FVec F S512x512 .f32 := Host.absf main_arg1
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c : IVec S_ 1 := constantI S_ 1 1#1
  let main_v32 : IVec S_ 1 := (fun x v => Host.reduce IntOp.andi x v reducesTo_S512x512_S_d0_1 h_S_) main_v31 main_c
  let main_cst_11 : FVec F S_ .f32 := constant S_ .f32 0x2B8CBCCC#32
  let main_v33 : FVec F S8x1x32x32 .f32 := broadcastInDim S8x1x32x32 ![] bcast_S_S8x1x32x32 main_cst_11
  fn_part2 (F := F) main_v3 main_v18 main_v28 main_v32 main_v33

def fn {F : FTy → Type} [FloatOps F] (main_arg0 : FVec F S8x512x32x32 .f32) (main_arg1 : FVec F S512x512 .f32) : IVec S_ 1 :=
  let main_v0 : FVec F S8x512x32x32 .f32 := mulf main_arg0 main_arg0
  let main_cst : FVec F S_ .f32 := constant S_ .f32 0x00000000#32
  let main_v1 : FVec F S8x32x32 .f32 := (fun x v => Host.reduceAdd x v reducesTo_S8x512x32x32_S8x32x32_d1 h_S_) main_v0 main_cst
  let main_v2 : FVec F S8x1x32x32 .f32 := broadcastInDim S8x1x32x32 ![0, 2, 3] bcast_S8x32x32_S8x1x32x32_0_2_3 main_v1
  let main_v3 : FVec F S8x1x32x32 .f32 := Host.sqrt main_v2
  let main_cst_0 : FVec F S_ .f32 := constant S_ .f32 0x2B8CBCCC#32
  let main_v4 : FVec F S8x1x32x32 .f32 := broadcastInDim S8x1x32x32 ![] bcast_S_S8x1x32x32 main_cst_0
  let main_v5 : FVec F S8x1x32x32 .f32 := maximumf main_v3 main_v4
  let main_v6 : FVec F S8x512x32x32 .f32 := broadcastInDim S8x512x32x32 ![0, 1, 2, 3] bcast_S8x1x32x32_S8x512x32x32_0_1_2_3 main_v5
  let main_v7 : FVec F S8x512x32x32 .f32 := Host.divf main_arg0 main_v6
  let main_v8 : FVec F S8x32x32x512 .f32 := (transpose S8x32x32x512 [0, 2, 3, 1] · transposes_S8x512x32x32_S8x32x32x512_0_2_3_1) main_v7
  let main_v9 : FVec F S512x512 .f32 := (transpose S512x512 [1, 0] · transposes_S512x512_S512x512_1_0) main_arg1
  let main_v10 : FVec F S8x32x32x512 .f32 := (fun l r => Host.dotGeneral dot_S8x32x32x512_S512x512_S8x32x32x512_3_0_012_1_n_n none l r) main_v8 main_v9
  let main_v11 : FVec F S8192x512 .f32 := shapeCast S8192x512 main_v10 shapeCasts_S8x32x32x512_S8192x512
  let main_cst_1 : FVec F S_ .f32 := constant S_ .f32 0xFF800000#32
  let main_v12 : FVec F S8192 .f32 := (fun x v => Host.reduce FloatOps.maximumf x v reducesTo_S8192x512_S8192_d1 h_S_) main_v11 main_cst_1
  let main_v13 : FVec F S8192x1 .f32 := broadcastInDim S8192x1 ![0] bcast_S8192_S8192x1_0 main_v12
  let main_v14 : FVec F S8192x512 .f32 := broadcastInDim S8192x512 ![0, 1] bcast_S8192x1_S8192x512_0_1 main_v13
  let main_v15 : IVec S8192x512 1 := cmpf .oeq main_v11 main_v14
  let main_cst_2 : FVec F S_ .f32 := constant S_ .f32 0x3F800000#32
  let main_cst_3 : FVec F S_ .f32 := constant S_ .f32 0x00000000#32
  let main_v16 : FVec F S8192x512 .f32 := fn_where (F := F) main_v15 main_cst_2 main_cst_3
  let main_v17 : FVec F S8192x512 .f32 := id main_v16
  let main_cst_4 : FVec F S_ .f32 := constant S_ .f32 0x00000000#32
  fn_part1 (F := F) main_arg1 main_v3 main_v11 main_v13 main_v17 main_cst_4
-- ==== Kernel.lean ====
abbrev S8x512x32x32 : Shape := ⟨4, ![8, 512, 32, 32]⟩
abbrev S512x512 : Shape := ⟨2, ![512, 512]⟩
abbrev S8x512x1024 : Shape := ⟨3, ![8, 512, 1024]⟩
abbrev S8x1024x1024 : Shape := ⟨3, ![8, 1024, 1024]⟩
abbrev S8192x512 : Shape := ⟨2, ![8192, 512]⟩
abbrev S1x1 : Shape := ⟨2, ![1, 1]⟩
abbrev S1x512x1024 : Shape := ⟨3, ![1, 512, 1024]⟩
abbrev S1x1024x1024 : Shape := ⟨3, ![1, 1024, 1024]⟩
abbrev S1024x512 : Shape := ⟨2, ![1024, 512]⟩
abbrev S8x1x1024 : Shape := ⟨3, ![8, 1, 1024]⟩
abbrev S512x1 : Shape := ⟨2, ![512, 1]⟩
abbrev S512 : Shape := ⟨1, ![512]⟩
abbrev S512x1024 : Shape := ⟨2, ![512, 1024]⟩
abbrev S1024 : Shape := ⟨1, ![1024]⟩
abbrev S1x1024 : Shape := ⟨2, ![1, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 10
  | .vmem => 19
  | .smem => 0
  | _ => 0

abbrev bufTy : (tb : Table) → Fin (tcTables nBuf tb) → BufTy
  | .hbm, ⟨0, _⟩ => ⟨S8x512x32x32, .f32⟩
  | .hbm, ⟨1, _⟩ => ⟨S512x512, .f32⟩
  | .hbm, ⟨2, _⟩ => ⟨S8x512x1024, .f32⟩
  | .hbm, ⟨3, _⟩ => ⟨S512x512, .f32⟩
  | .hbm, ⟨4, _⟩ => ⟨S8x1024x1024, .f32⟩
  | .hbm, ⟨5, _⟩ => ⟨S8192x512, .f32⟩
  | .hbm, ⟨6, _⟩ => ⟨S8192x512, .f32⟩
  | .hbm, ⟨7, _⟩ => ⟨S512x512, .f32⟩
  | .hbm, ⟨8, _⟩ => ⟨S1x1, .f32⟩
  | .hbm, ⟨9, _⟩ => ⟨S1x1, .f32⟩
  | .local _ .vmem, ⟨0, _⟩ => ⟨S1x512x1024, .f32⟩
  | .local _ .vmem, ⟨1, _⟩ => ⟨S1x512x1024, .f32⟩
  | .local _ .vmem, ⟨2, _⟩ => ⟨S512x512, .f32⟩
  | .local _ .vmem, ⟨3, _⟩ => ⟨S512x512, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S512x512, .f32⟩
  | .local _ .vmem, ⟨11, _⟩ => ⟨S1x1, .f32⟩
  | .local _ .vmem, ⟨12, _⟩ => ⟨S1x1, .f32⟩
  | .local _ .vmem, ⟨13, _⟩ => ⟨S8x512x1024, .f32⟩
  | .local _ .vmem, ⟨14, _⟩ => ⟨S8x1x1024, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x512, .f32⟩
  | _, _ => ⟨S8x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k0_off2 (i : grid0.Coords) : Fin 3 → Nat :=
  let arg1 : BitVec 32 := BitVec.ofNat 32 (i 1).val
  let v27 : Index := Scalar.indexCast arg1
  let c0_13 : Index := 0#32
  let c0_14 : Index := 0#32
  ![v27.toNat, 0, 0]
def k0_cond5 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 3 → Nat :=
  let arg1 : BitVec 32 := BitVec.ofNat 32 (i 1).val
  let v8 : Index := Scalar.indexCast arg1
  let c0_4 : Index := 0#32
  let c0_5 : Index := 0#32
  ![v8.toNat, 0, 0]
def k0_off4 (i : grid0.Coords) : Fin 3 → Nat :=
  let arg1 : BitVec 32 := BitVec.ofNat 32 (i 1).val
  let v13 : Index := Scalar.indexCast arg1
  let c0_6 : Index := 0#32
  let c0_7 : Index := 0#32
  ![v13.toNat, 0, 0]
def k0_cond8 (i : grid0.Coords) : BitVec 1 :=
  let arg1 : BitVec 32 := BitVec.ofNat 32 (i 1).val
  let c7_i32 : BitVec 32 := 7#32
  let v109 : BitVec 1 := Scalar.cmpi .eq arg1 c7_i32
  let v110 : BitVec 32 := Scalar.extui v109
  let c0_i32_49 : BitVec 32 := 0#32
  let v111 : BitVec 1 := Scalar.cmpi .ne v110 c0_i32_49
  v111

def k0_cond6 (i : grid0.Coords) : BitVec 1 :=
  let arg1 : BitVec 32 := BitVec.ofNat 32 (i 1).val
  let c0_i32_45 : BitVec 32 := 0#32
  let v103 : BitVec 1 := Scalar.cmpi .eq arg1 c0_i32_45
  let v104 : BitVec 32 := Scalar.extui v103
  let c0_i32_46 : BitVec 32 := 0#32
  let v105 : BitVec 1 := Scalar.cmpi .ne v104 c0_i32_46
  v105

def k0_cond7 (i : grid0.Coords) : BitVec 1 :=
  let arg1 : BitVec 32 := BitVec.ofNat 32 (i 1).val
  let c0_i32_47 : BitVec 32 := 0#32
  let v106 : BitVec 1 := Scalar.cmpi .sgt arg1 c0_i32_47
  let v107 : BitVec 32 := Scalar.extui v106
  let c0_i32_48 : BitVec 32 := 0#32
  let v108 : BitVec 1 := Scalar.cmpi .ne v107 c0_i32_48
  v108

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let v17 : BitVec 32 := Scalar.muli arg0 v16
  let c1_i32_5 : BitVec 32 := 1#32
  let c0_i32_6 : BitVec 32 := 0#32
  let v18 : BitVec 1 := Scalar.cmpi .eq c1_i32_5 c0_i32_6
  let c1_i32_7 : BitVec 32 := 1#32
  let v19 : BitVec 32 := Scalar.select v18 c1_i32_7 c1_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.muli arg0 v27
  let c0_i32_11 : BitVec 32 := 0#32
  let c0_i32_12 : BitVec 32 := 0#32
  ![v17.toNat, c0_i32_11.toNat, v28.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S8x512x32x32 : Shape := ⟨4, ![8, 512, 32, 32]⟩
abbrev S512x512 : Shape := ⟨2, ![512, 512]⟩
abbrev S_ : Shape := ⟨0, ![]⟩
abbrev S8x32x32 : Shape := ⟨3, ![8, 32, 32]⟩
abbrev S8x1x32x32 : Shape := ⟨4, ![8, 1, 32, 32]⟩
abbrev S8x32x32x512 : Shape := ⟨4, ![8, 32, 32, 512]⟩
abbrev S8192x512 : Shape := ⟨2, ![8192, 512]⟩
abbrev S512 : Shape := ⟨1, ![512]⟩
abbrev S1x512 : Shape := ⟨2, ![1, 512]⟩
abbrev S8192 : Shape := ⟨1, ![8192]⟩
abbrev S8192x1 : Shape := ⟨2, ![8192, 1]⟩
abbrev S8192x1024 : Shape := ⟨2, ![8192, 1024]⟩
abbrev S8x32x32x1024 : Shape := ⟨4, ![8, 32, 32, 1024]⟩
abbrev S8x1024x32x32 : Shape := ⟨4, ![8, 1024, 32, 32]⟩
abbrev S8x1024x1024 : Shape := ⟨3, ![8, 1024, 1024]⟩
abbrev S8192x2 : Shape := ⟨2, ![8192, 2]⟩
abbrev S512x1 : Shape := ⟨2, ![512, 1]⟩
abbrev S1x1 : Shape := ⟨2, ![1, 1]⟩

abbrev nBuf : Space → Nat
  | .hbm => 183
  | .vmem => 0
  | .smem => 0
  | _ => 0

abbrev hbmTy0_0 (i : Nat) : BufTy := match i % 128 with
  | 0 => ⟨S8x512x32x32, .f32⟩
  | 1 => ⟨S512x512, .f32⟩
  | 2 => ⟨S8x512x32x32, .f32⟩
  | 3 => ⟨S_, .f32⟩
  | 4 => ⟨S8x32x32, .f32⟩
  | 5 => ⟨S8x1x32x32, .f32⟩
  | 6 => ⟨S8x1x32x32, .f32⟩
  | 7 => ⟨S_, .f32⟩
  | 8 => ⟨S8x1x32x32, .f32⟩
  | 9 => ⟨S8x1x32x32, .f32⟩
  | 10 => ⟨S8x512x32x32, .f32⟩
  | 11 => ⟨S8x512x32x32, .f32⟩
  | 12 => ⟨S8x32x32x512, .f32⟩
  | 13 => ⟨S512x512, .f32⟩
  | 14 => ⟨S8x32x32x512, .f32⟩
  | 15 => ⟨S8192x512, .f32⟩
  | 16 => ⟨S_, .f32⟩
  | 17 => ⟨S512, .f32⟩
  | 18 => ⟨S_, .f32⟩
  | 19 => ⟨S512, .f32⟩
  | 20 => ⟨S512, .f32⟩
  | 21 => ⟨S1x512, .f32⟩
  | 22 => ⟨S8192x512, .f32⟩
  | 23 => ⟨S8192x512, .f32⟩
  | 24 => ⟨S8192x512, .f32⟩
  | 25 => ⟨S_, .f32⟩
  | 26 => ⟨S512, .f32⟩
  | 27 => ⟨S1x512, .f32⟩
  | 28 => ⟨S8192x512, .f32⟩
  | 29 => ⟨S8192x512, .f32⟩
  | 30 => ⟨S_, .f32⟩
  | 31 => ⟨S8192, .f32⟩
  | 32 => ⟨S_, .f32⟩
  | 33 => ⟨S8192, .f32⟩
  | 34 => ⟨S8192, .f32⟩
  | 35 => ⟨S8192x1, .f32⟩
  | 36 => ⟨S8192x512, .f32⟩
  | 37 => ⟨S8192x512, .f32⟩
  | 38 => ⟨S8192x512, .f32⟩
  | 39 => ⟨S_, .f32⟩
  | 40 => ⟨S8192, .f32⟩
  | 41 => ⟨S8192x1, .f32⟩
  | 42 => ⟨S8192x512, .f32⟩
  | 43 => ⟨S8192x512, .f32⟩
  | 44 => ⟨S8192x512, .f32⟩
  | 45 => ⟨S8192x512, .f32⟩
  | 46 => ⟨S8192x1024, .f32⟩
  | 47 => ⟨S8x32x32x1024, .f32⟩
  | 48 => ⟨S8x1024x32x32, .f32⟩
  | 49 => ⟨S8x1024x1024, .f32⟩
  | 50 => ⟨S_, .f32⟩
  | 51 => ⟨S8192, .f32⟩
  | 52 => ⟨S8192x1, .f32⟩
  | 53 => ⟨S8192x512, .i32⟩
  | 54 => ⟨S8192x512, .f32⟩
  | 55 => ⟨S8192x512, .i1⟩
  | 56 => ⟨S_, .i32⟩
  | 57 => ⟨S_, .i32⟩
  | 58 => ⟨S8192x512, .i32⟩
  | 59 => ⟨S8192x512, .i32⟩
  | 60 => ⟨S_, .i32⟩
  | 61 => ⟨S8192, .i32⟩
  | 62 => ⟨S_, .f32⟩
  | 63 => ⟨S512, .f32⟩
  | 64 => ⟨S8192, .i32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x1, .i32⟩
  | 81 => ⟨S8192x2, .i32⟩
  | 82 => ⟨S8192, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192, .f32⟩
  | 92 => ⟨S8192, .f32⟩
  | 93 => ⟨S_, .f32⟩
  | 94 => ⟨S512x512, .f32⟩
  | 95 => ⟨S8192x1, .f32⟩
  | 96 => ⟨S8192x512, .f32⟩
  | 97 => ⟨S8192x512, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S512x512, .f32⟩
  | 107 => ⟨S512x512, .f32⟩
  | 108 => ⟨S512x512, .f32⟩
  | 109 => ⟨S_, .f32⟩
  | 110 => ⟨S512, .f32⟩
  | 111 => ⟨S512x1, .f32⟩
  | 112 => ⟨S512x1, .f32⟩
  | 113 => ⟨S_, .f32⟩
  | 114 => ⟨S512x1, .f32⟩
  | 115 => ⟨S512x1, .f32⟩
  | 116 => ⟨S512x512, .f32⟩
  | 117 => ⟨S512x512, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x512, .f32⟩
  | 127 => ⟨S8192x512, .f32⟩
  | _ => ⟨S8x512x32x32, .f32⟩

abbrev hbmTy0_1 (i : Nat) : BufTy := match i % 128 with
  | 0 => ⟨S8192x512, .f32⟩
  | 1 => ⟨S_, .f32⟩
  | 2 => ⟨S_, .f32⟩
  | 3 => ⟨S_, .f32⟩
  | 4 => ⟨S_, .f32⟩
  | 5 => ⟨S8192x1, .i32⟩
  | 6 => ⟨S8192x512, .i32⟩
  | 7 => ⟨S8192x512, .i1⟩
  | 8 => ⟨S_, .f32⟩
  | 9 => ⟨S_, .f32⟩
  | 10 => ⟨S8192x512, .f32⟩
  | 11 => ⟨S8192x512, .f32⟩
  | 12 => ⟨S_, .f32⟩
  | 13 => ⟨S8192, .f32⟩
  | 14 => ⟨S8192x1, .f32⟩
  | 15 => ⟨S8192x512, .f32⟩
  | 16 => ⟨S8192x512, .i1⟩
  | 17 => ⟨S_, .i32⟩
  | 18 => ⟨S_, .i32⟩
  | 19 => ⟨S8192x512, .i32⟩
  | 20 => ⟨S8192x512, .i32⟩
  | 21 => ⟨S_, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x512, .f32⟩
  | 32 => ⟨S8192x512, .f32⟩
  | 33 => ⟨S8192x512, .f32⟩
  | 34 => ⟨S_, .f32⟩
  | 35 => ⟨S8192, .f32⟩
  | 36 => ⟨S8192, .f32⟩
  | 37 => ⟨S8192x512, .f32⟩
  | 38 => ⟨S8192x512, .f32⟩
  | 39 => ⟨S_, .f32⟩
  | 40 => ⟨S8192, .f32⟩
  | 41 => ⟨S8192, .f32⟩
  | 42 => ⟨S8192, .f32⟩
  | 43 => ⟨S_, .f32⟩
  | 44 => ⟨S8192, .f32⟩
  | 45 => ⟨S8192, .f32⟩
  | 46 => ⟨S_, .f32⟩
  | 47 => ⟨S8192, .f32⟩
  | 48 => ⟨S8192, .f32⟩
  | 49 => ⟨S_, .f32⟩
  | 50 => ⟨S_, .f32⟩
  | 51 => ⟨S_, .f32⟩
  | 52 => ⟨S_, .f32⟩
  | 53 => ⟨S1x1, .f32⟩
  | 54 => ⟨S1x1, .f32⟩
  | _ => ⟨S8x512x32x32, .f32⟩

abbrev hbmTy (i : Nat) : BufTy := match i / 128 with
  | 0 => hbmTy0_0 i
  | 1 => hbmTy0_1 i
  | _ => ⟨S8x512x32x32, .f32⟩

abbrev bufTy : (tb : Table) → Fin (tcTables nBuf tb) → BufTy
  | .hbm, ⟨i, _⟩ => hbmTy i
  | _, _ => ⟨S8x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_v45 : Ref sig .tc := ⟨.hbm, 59, rfl⟩
abbrev main_c_8 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_c_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_12 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_14 : Ref sig .tc := ⟨.hbm, 83, rfl⟩
abbrev main_v63 : Ref sig .tc := ⟨.hbm, 84, rfl⟩
abbrev main_v64 : Ref sig .tc := ⟨.hbm, 85, rfl⟩
abbrev main_c_15 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_17 : Ref sig .tc := ⟨.hbm, 98, rfl⟩
abbrev main_v75 : Ref sig .tc := ⟨.hbm, 99, rfl⟩
abbrev main_v76 : Ref sig .tc := ⟨.hbm, 100, rfl⟩
abbrev main_c_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_19 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_20 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_c_21 : Ref sig .tc := ⟨.hbm, 118, rfl⟩
abbrev main_v91 : Ref sig .tc := ⟨.hbm, 119, rfl⟩
abbrev main_v92 : Ref sig .tc := ⟨.hbm, 120, rfl⟩
abbrev main_c_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_23 : Ref sig .tc := ⟨.hbm, 129, rfl⟩
abbrev main_v100 : Ref sig .tc := ⟨.hbm, 130, rfl⟩
abbrev main_cst_24 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_25 : Ref sig .tc := ⟨.hbm, 136, rfl⟩
abbrev main_call1_v0 : Ref sig .tc := ⟨.hbm, 137, rfl⟩
abbrev main_call1_v1 : Ref sig .tc := ⟨.hbm, 138, rfl⟩
abbrev main_v105 : Ref sig .tc := ⟨.hbm, 139, rfl⟩
abbrev main_cst_26 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_27 : Ref sig .tc := ⟨.hbm, 145, rfl⟩
abbrev main_call2_v0 : Ref sig .tc := ⟨.hbm, 146, rfl⟩
abbrev main_call2_v1 : Ref sig .tc := ⟨.hbm, 147, rfl⟩
abbrev main_v110 : Ref sig .tc := ⟨.hbm, 148, rfl⟩
abbrev main_c_28 : Ref sig .tc := ⟨.hbm, 149, rfl⟩
abbrev main_v111 : Ref sig .tc := ⟨.hbm, 150, rfl⟩
abbrev main_c_29 : Ref sig .tc := ⟨.hbm, 151, rfl⟩
abbrev main_v112 : Ref sig .tc := ⟨.hbm, 152, rfl⟩
abbrev main_v113 : Ref sig .tc := ⟨.hbm, 153, rfl⟩
abbrev main_c_30 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_31 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_32 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_33 : Ref sig .tc := ⟨.hbm, 171, rfl⟩
abbrev main_v128 : Ref sig .tc := ⟨.hbm, 172, rfl⟩
abbrev main_v129 : Ref sig .tc := ⟨.hbm, 173, rfl⟩
abbrev main_cst_34 : Ref sig .tc := ⟨.hbm, 174, rfl⟩
abbrev main_v130 : Ref sig .tc := ⟨.hbm, 175, rfl⟩
abbrev main_v131 : Ref sig .tc := ⟨.hbm, 176, rfl⟩
abbrev main_cst_35 : Ref sig .tc := ⟨.hbm, 177, rfl⟩
abbrev main_v132 : Ref sig .tc := ⟨.hbm, 178, rfl⟩
abbrev main_cst_36 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩

abbrev nD : Nat := 1
abbrev τ : Topo := Topo.v7x

variable {F : FTy → Type} [FloatOps F]
-- ==== Proof.StepsI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## What one visit of the body computes, as functions of what it finds -/

/-- The slot of the inverse norms that a second-phase visit loads. -/
def ldN (i : grid0.Coords) (h : k0_cond5 i = 1#1) (s : Vec F S8x1x1024 .f32) : Vec F S1x1x1024 .f32 :=
  VecWindow.window s (k0_off3 i) S1x1x1024.size (k0_off3_inb i h)

/-- The slot of the scores that a second-phase visit loads. -/
def ldS (i : grid0.Coords) (h : k0_cond5 i = 1#1) (s : Vec F S8x512x1024 .f32) : Vec F S1x512x1024 .f32 :=
  VecWindow.window s (k0_off4 i) S1x512x1024.size (k0_off4_inb i h)

/-- The running column sum after a later first-phase visit. -/
def csB (x1 : Vec F S512x512 .f32) (x0 : Vec F S1x512x1024 .f32) (s2 s3 : Vec F S512x1 .f32) : Vec F S512x1 .f32 :=
  k0_pay2 (k0_pay21 x1 x0) (k0_pay22 x1 x0) s2 s3

/-- The running column maximum after a later first-phase visit. -/
def cmB (x1 : Vec F S512x512 .f32) (x0 : Vec F S1x512x1024 .f32) (s2 : Vec F S512x1 .f32) : Vec F S512x1 .f32 :=
  k0_pay3 (k0_pay21 x1 x0) s2

/-- The block of the first result: the normalised queries above the memory reads. -/
def uqB (x0 : Vec F S1x512x1024 .f32) (x2 : Vec F S512x512 .f32) (n : Vec F S1x1x1024 .f32) (z : Vec F S1x512x1024 .f32) : Vec F S1x1024x1024 .f32 :=
  VecWindow.put (fun y : S1x1024x1024.Idx => k0_pay30 x0 n (ValueIdx.ix3 (n0 := 1) (n1 := 512) (n2 := 1024) (y 0) ⟨(y 1).val % 512, Nat.mod_lt _ (Nat.succ_pos 511)⟩ (y 2)))
    ![0, 512, 0] S1x512x1024.size (k0_pay31 z x2)

/-- The block of the softmax over the queries. -/
def ssqB (z : Vec F S1x512x1024 .f32) (s2 s3 : Vec F S512x1 .f32) : Vec F S1024x512 .f32 := k0_pay33 (k0_pay32 z s2) s3

/-- The memory update a first second-phase visit starts from. -/
def accC (x0 : Vec F S1x512x1024 .f32) (n : Vec F S1x1x1024 .f32) (z : Vec F S1x512x1024 .f32) (s2 : Vec F S512x1 .f32) : Vec F S512x512 .f32 :=
  k0_pay6 (k0_pay25 x0 n) (k0_pay32 z s2) (k0_pay35 (k0_pay26 z) (k0_pay27 z))

/-- The memory update a later second-phase visit leaves. -/
def accD (x0 : Vec F S1x512x1024 .f32) (n : Vec F S1x1x1024 .f32) (z : Vec F S1x512x1024 .f32) (s2 : Vec F S512x1 .f32) (s5 : Vec F S512x512 .f32) : Vec F S512x512 .f32 :=
  k0_pay9 (k0_pay25 x0 n) (k0_pay32 z s2) (k0_pay35 (k0_pay26 z) (k0_pay27 z)) s5

/-- The gathering sum of one block. -/
def gblk (z : Vec F S1x512x1024 .f32) (s4 : Vec F S512x1 .f32) : F .f32 := k0_pay40 (k0_pay26 z) (k0_pay27 z) s4

/-- The gathering sum a first second-phase visit starts from. -/
def glC (z : Vec F S1x512x1024 .f32) (s4 : Vec F S512x1 .f32) : Vec F S1x1 .f32 := k0_pay7 (gblk z s4)

/-- The gathering sum a later second-phase visit leaves. -/
def glD (z : Vec F S1x512x1024 .f32) (s4 : Vec F S512x1 .f32) (g : Vec F S1x1 .f32) : Vec F S1x1 .f32 := k0_pay10 (gblk z s4) g

/-- The spreading sum a first second-phase visit starts from. -/
def slC (z : Vec F S1x512x1024 .f32) (s4 : Vec F S512x1 .f32) : Vec F S1x1 .f32 :=
  k0_pay8 (k0_pay37 (k0_pay26 z) (k0_pay27 z)) (k0_pay39 (k0_pay26 z) (k0_pay27 z) s4) (k0_pay41 (k0_pay26 z) (k0_pay27 z) s4) (Scalar.ofBits .f32 0x3F800000#32)

/-- The spreading sum a later second-phase visit leaves. -/
def slD (z : Vec F S1x512x1024 .f32) (s4 : Vec F S512x1 .f32) (g : Vec F S1x1 .f32) : Vec F S1x1 .f32 :=
  k0_pay11 (k0_pay37 (k0_pay26 z) (k0_pay27 z)) (k0_pay39 (k0_pay26 z) (k0_pay27 z) s4) (k0_pay41 (k0_pay26 z) (k0_pay27 z) s4) (Scalar.ofBits .f32 0x3F800000#32) g

/-- Two stores that tile the block of the first result leave that block, whatever was there. -/
theorem read_uq (v : View sig .tc .vmem S1x1024x1024 .f32) (f : v.ty.Contents (Elt F)) (w0 w1 : Vec F S1x512x1024 .f32) (x0 : Vec F S1x512x1024 .f32)
    (x2 : Vec F S512x512 .f32) (n : Vec F S1x1x1024 .f32) (z : Vec F S1x512x1024 .f32) (h0 : w0 = k0_pay30 x0 n) (h1 : w1 = k0_pay31 z x2) :
    v.read (Elt F) (v.writes (Elt F) f [⟨Rect.unit (s := S1x1024x1024) ![0, 512, 0] S1x512x1024.size inb_S1x1024x1024_S1x512x1024_0_512_0, w1⟩,
      ⟨Rect.unit (s := S1x1024x1024) ![0, 0, 0] S1x512x1024.size inb_S1x1024x1024_S1x512x1024_0_0_0, w0⟩]) = uqB x0 x2 n z := by
  subst h0 h1
  rw [View.read_writes_cons_put v f _ _ _ rfl, View.read_writes_cons_put v f _ _ _ rfl]
  funext y
  unfold uqB
  have y0 : (y 0).val < 1 := (y 0).isLt
  have y1 : (y 1).val < 1024 := (y 1).isLt
  have y2 : (y 2).val < 1024 := (y 2).isLt
  by_cases h : 512 ≤ (y 1).val
  · have hy : ∀ a : Fin 3, (![0, 512, 0] : Fin 3 → ℕ) a ≤ (y a).val ∧ (y a).val < (![0, 512, 0] : Fin 3 → ℕ) a + S1x512x1024.size a := fun a => match a with
      | 0 => ⟨Nat.zero_le _, lt_of_lt_of_eq y0 rfl⟩
      | 1 => ⟨h, lt_of_lt_of_eq y1 rfl⟩
      | 2 => ⟨Nat.zero_le _, lt_of_lt_of_eq y2 rfl⟩
    unfold VecWindow.put
    rw [dif_pos hy, dif_pos hy]
  · have hy : ¬ ∀ a : Fin 3, (![0, 512, 0] : Fin 3 → ℕ) a ≤ (y a).val ∧ (y a).val < (![0, 512, 0] : Fin 3 → ℕ) a + S1x512x1024.size a := fun hall => h (hall 1).1
    have y1' : (y 1).val < 512 := Nat.lt_of_not_le h
    have hz : ∀ a : Fin 3, (![0, 0, 0] : Fin 3 → ℕ) a ≤ (y a).val ∧ (y a).val < (![0, 0, 0] : Fin 3 → ℕ) a + S1x512x1024.size a := fun a => match a with
      | 0 => ⟨Nat.zero_le _, lt_of_lt_of_eq y0 rfl⟩
      | 1 => ⟨Nat.zero_le _, lt_of_lt_of_eq y1' rfl⟩
      | 2 => ⟨Nat.zero_le _, lt_of_lt_of_eq y2 rfl⟩
    unfold VecWindow.put
    rw [dif_neg hy, dif_neg hy, dif_pos hz]
    exact congrArg (k0_pay30 x0 n) (funext fun a => match a with
      | 0 => Fin.ext (Nat.sub_zero _)
      | 1 => Fin.ext ((Nat.sub_zero _).trans (Nat.mod_eq_of_lt y1').symm)
      | 2 => Fin.ext (Nat.sub_zero _))

/-! ## Loads and stores of whole memrefs, at the program's own rectangles -/

/-- A whole load reads what the memref reads. -/
theorem ld_S512x512 (v : View sig .tc .vmem S512x512 .f32) (f : v.ty.Contents (Elt F)) :
    v.readAt (Elt F) (Rect.unit (s := S512x512) ![0, 0] ![512, 512] inb_S512x512_S512x512_0_0).toLoadRect f = v.read (Elt F) f := View.readAt_full v f _

/-- A whole store leaves its payload. -/
theorem st_S512x512 (v : View sig .tc .vmem S512x512 .f32) (f : v.ty.Contents (Elt F)) (w : S512x512.Idx → Elt F .f32) (L : List (View.Piece (Elt F) S512x512 .f32)) :
    v.read (Elt F) (v.writes (Elt F) f (⟨(Rect.unit (s := S512x512) ![0, 0] ![512, 512] inb_S512x512_S512x512_0_0), w⟩ :: L)) = w := View.read_writes_full v f _ w L

/-- A whole load after a whole store reads the payload. -/
theorem cov_S512x512 (v : View sig .tc .vmem S512x512 .f32) (w : S512x512.Idx → Elt F .f32) (L : List (View.Piece (Elt F) S512x512 .f32)) :
    v.readCov (⟨(Rect.unit (s := S512x512) ![0, 0] ![512, 512] inb_S512x512_S512x512_0_0), w⟩ :: L) (Rect.unit (s := S512x512) ![0, 0] ![512, 512] inb_S512x512_S512x512_0_0).toLoadRect = w := View.readCov_full v _ _ w L

/-- A whole load reads what the memref reads. -/
theorem ld_S1x512x1024 (v : View sig .tc .vmem S1x512x1024 .f32) (f : v.ty.Contents (Elt F)) :
    v.readAt (Elt F) (Rect.unit (s := S1x512x1024) ![0, 0, 0] ![1, 512, 1024] inb_S1x512x1024_S1x512x1024_0_0_0).toLoadRect f = v.read (Elt F) f := View.readAt_full v f _

/-- A whole store leaves its payload. -/
theorem st_S1x512x1024 (v : View sig .tc .vmem S1x512x1024 .f32) (f : v.ty.Contents (Elt F)) (w : S1x512x1024.Idx → Elt F .f32) (L : List (View.Piece (Elt F) S1x512x1024 .f32)) :
    v.read (Elt F) (v.writes (Elt F) f (⟨(Rect.unit (s := S1x512x1024) ![0, 0, 0] ![1, 512, 1024] inb_S1x512x1024_S1x512x1024_0_0_0), w⟩ :: L)) = w := View.read_writes_full v f _ w L

/-- A whole load after a whole store reads the payload. -/
theorem cov_S1x512x1024 (v : View sig .tc .vmem S1x512x1024 .f32) (w : S1x512x1024.Idx → Elt F .f32) (L : List (View.Piece (Elt F) S1x512x1024 .f32)) :
    v.readCov (⟨(Rect.unit (s := S1x512x1024) ![0, 0, 0] ![1, 512, 1024] inb_S1x512x1024_S1x512x1024_0_0_0), w⟩ :: L) (Rect.unit (s := S1x512x1024) ![0, 0, 0] ![1, 512, 1024] inb_S1x512x1024_S1x512x1024_0_0_0).toLoadRect = w := View.readCov_full v _ _ w L

/-- A whole load reads what the memref reads. -/
theorem ld_S512x1 (v : View sig .tc .vmem S512x1 .f32) (f : v.ty.Contents (Elt F)) :
    v.readAt (Elt F) (Rect.unit (s := S512x1) ![0, 0] ![512, 1] inb_S512x1_S512x1_0_0).toLoadRect f = v.read (Elt F) f := View.readAt_full v f _

/-- A whole store leaves its payload. -/
theorem st_S512x1 (v : View sig .tc .vmem S512x1 .f32) (f : v.ty.Contents (Elt F)) (w : S512x1.Idx → Elt F .f32) (L : List (View.Piece (Elt F) S512x1 .f32)) :
    v.read (Elt F) (v.writes (Elt F) f (⟨(Rect.unit (s := S512x1) ![0, 0] ![512, 1] inb_S512x1_S512x1_0_0), w⟩ :: L)) = w := View.read_writes_full v f _ w L

/-- A whole load after a whole store reads the payload. -/
theorem cov_S512x1 (v : View sig .tc .vmem S512x1 .f32) (w : S512x1.Idx → Elt F .f32) (L : List (View.Piece (Elt F) S512x1 .f32)) :
    v.readCov (⟨(Rect.unit (s := S512x1) ![0, 0] ![512, 1] inb_S512x1_S512x1_0_0), w⟩ :: L) (Rect.unit (s := S512x1) ![0, 0] ![512, 1] inb_S512x1_S512x1_0_0).toLoadRect = w := View.readCov_full v _ _ w L

/-- A whole load reads what the memref reads. -/
theorem ld_S1x1 (v : View sig .tc .vmem S1x1 .f32) (f : v.ty.Contents (Elt F)) :
    v.readAt (Elt F) (Rect.unit (s := S1x1) ![0, 0] ![1, 1] inb_S1x1_S1x1_0_0).toLoadRect f = v.read (Elt F) f := View.readAt_full v f _

/-- A whole store leaves its payload. -/
theorem st_S1x1 (v : View sig .tc .vmem S1x1 .f32) (f : v.ty.Contents (Elt F)) (w : S1x1.Idx → Elt F .f32) (L : List (View.Piece (Elt F) S1x1 .f32)) :
    v.read (Elt F) (v.writes (Elt F) f (⟨(Rect.unit (s := S1x1) ![0, 0] ![1, 1] inb_S1x1_S1x1_0_0), w⟩ :: L)) = w := View.read_writes_full v f _ w L

/-- A whole load after a whole store reads the payload. -/
theorem cov_S1x1 (v : View sig .tc .vmem S1x1 .f32) (w : S1x1.Idx → Elt F .f32) (L : List (View.Piece (Elt F) S1x1 .f32)) :
    v.readCov (⟨(Rect.unit (s := S1x1) ![0, 0] ![1, 1] inb_S1x1_S1x1_0_0), w⟩ :: L) (Rect.unit (s := S1x1) ![0, 0] ![1, 1] inb_S1x1_S1x1_0_0).toLoadRect = w := View.readCov_full v _ _ w L

/-- A whole load reads what the memref reads. -/
theorem ld_S1024x512 (v : View sig .tc .vmem S1024x512 .f32) (f : v.ty.Contents (Elt F)) :
    v.readAt (Elt F) (Rect.unit (s := S1024x512) ![0, 0] ![1024, 512] inb_S1024x512_S1024x512_0_0).toLoadRect f = v.read (Elt F) f := View.readAt_full v f _

/-- A whole store leaves its payload. -/
theorem st_S1024x512 (v : View sig .tc .vmem S1024x512 .f32) (f : v.ty.Contents (Elt F)) (w : S1024x512.Idx → Elt F .f32) (L : List (View.Piece (Elt F) S1024x512 .f32)) :
    v.read (Elt F) (v.writes (Elt F) f (⟨(Rect.unit (s := S1024x512) ![0, 0] ![1024, 512] inb_S1024x512_S1024x512_0_0), w⟩ :: L)) = w := View.read_writes_full v f _ w L

/-- A whole load after a whole store reads the payload. -/
theorem cov_S1024x512 (v : View sig .tc .vmem S1024x512 .f32) (w : S1024x512.Idx → Elt F .f32) (L : List (View.Piece (Elt F) S1024x512 .f32)) :
    v.readCov (⟨(Rect.unit (s := S1024x512) ![0, 0] ![1024, 512] inb_S1024x512_S1024x512_0_0), w⟩ :: L) (Rect.unit (s := S1024x512) ![0, 0] ![1024, 512] inb_S1024x512_S1024x512_0_0).toLoadRect = w := View.readCov_full v _ _ w L

/-- The load of a slot of the scores is a window of the scores. -/
theorem ld_slotS (i : grid0.Coords) (h : k0_cond5 i = 1#1) (v : View sig .tc .vmem S8x512x1024 .f32) (f : v.ty.Contents (Elt F)) :
    v.readAt (Elt F) (Rect.unit (s := S8x512x1024) (k0_off4 i) ![1, 512, 1024] (k0_off4_inb i h)).toLoadRect f = ldS i h (v.read (Elt F) f) :=
  View.readAt_unit v f _ rfl _

/-- The load of a slot of the inverse norms is a window of them. -/
theorem ld_slotN (i : grid0.Coords) (h : k0_cond5 i = 1#1) (v : View sig .tc .vmem S8x1x1024 .f32) (f : v.ty.Contents (Elt F)) :
    v.readAt (Elt F) (Rect.unit (s := S8x1x1024) (k0_off3 i) ![1, 1, 1024] (k0_off3_inb i h)).toLoadRect f = ldN i h (v.read (Elt F) f) :=
  View.readAt_unit v f _ rfl _

/-! ## The body's branch conditions, over the points -/

/-- The inner first-visit test of the first phase. -/
abbrev cInit (i : grid0.Coords) : Prop := (Scalar.cmpi .ne (Scalar.extui (Scalar.cmpi .eq (BitVec.ofNat 32 (i 1).val) 0#32)) 0#32) = 1#1
/-- The inner later-visit test of the first phase. -/
abbrev cAcc (i : grid0.Coords) : Prop := (Scalar.cmpi .ne (Scalar.extui (Scalar.cmpi .sgt (BitVec.ofNat 32 (i 1).val) 0#32)) 0#32) = 1#1

theorem c1_iff : ∀ t : Fin cfg0.N, k0_cond1 (grid0.coords t) = 1#1 ↔ t.val < 8 := (by decide +kernel : ∀ t : Fin grid0.N, k0_cond1 (grid0.coords t) = 1#1 ↔ t.val < 8)
theorem cInit_iff : ∀ t : Fin cfg0.N, cInit (grid0.coords t) ↔ t.val % 8 = 0 := (by decide +kernel : ∀ t : Fin grid0.N, cInit (grid0.coords t) ↔ t.val % 8 = 0)
theorem cAcc_iff : ∀ t : Fin cfg0.N, cAcc (grid0.coords t) ↔ t.val % 8 ≠ 0 := (by decide +kernel : ∀ t : Fin grid0.N, cAcc (grid0.coords t) ↔ t.val % 8 ≠ 0)
theorem c5_iff : ∀ t : Fin cfg0.N, k0_cond5 (grid0.coords t) = 1#1 ↔ 8 ≤ t.val := (by decide +kernel : ∀ t : Fin grid0.N, k0_cond5 (grid0.coords t) = 1#1 ↔ 8 ≤ t.val)
theorem c6_iff : ∀ t : Fin cfg0.N, k0_cond6 (grid0.coords t) = 1#1 ↔ t.val % 8 = 0 := (by decide +kernel : ∀ t : Fin grid0.N, k0_cond6 (grid0.coords t) = 1#1 ↔ t.val % 8 = 0)
theorem c7_iff : ∀ t : Fin cfg0.N, k0_cond7 (grid0.coords t) = 1#1 ↔ t.val % 8 ≠ 0 := (by decide +kernel : ∀ t : Fin grid0.N, k0_cond7 (grid0.coords t) = 1#1 ↔ t.val % 8 ≠ 0)
theorem c8_iff : ∀ t : Fin cfg0.N, k0_cond8 (grid0.coords t) = 1#1 ↔ t.val % 8 = 7 := (by decide +kernel : ∀ t : Fin grid0.N, k0_cond8 (grid0.coords t) = 1#1 ↔ t.val % 8 = 7)
theorem off1_eq : ∀ t : Fin cfg0.N, k0_off1 (grid0.coords t) = ![t.val % 8, 0, 0] := (by decide +kernel : ∀ t : Fin grid0.N, k0_off1 (grid0.coords t) = ![t.val % 8, 0, 0])
theorem off2_eq : ∀ t : Fin cfg0.N, k0_off2 (grid0.coords t) = ![t.val % 8, 0, 0] := (by decide +kernel : ∀ t : Fin grid0.N, k0_off2 (grid0.coords t) = ![t.val % 8, 0, 0])
theorem off3_eq : ∀ t : Fin cfg0.N, k0_off3 (grid0.coords t) = ![t.val % 8, 0, 0] := (by decide +kernel : ∀ t : Fin grid0.N, k0_off3 (grid0.coords t) = ![t.val % 8, 0, 0])
theorem off4_eq : ∀ t : Fin cfg0.N, k0_off4 (grid0.coords t) = ![t.val % 8, 0, 0] := (by decide +kernel : ∀ t : Fin grid0.N, k0_off4 (grid0.coords t) = ![t.val % 8, 0, 0])

end Cert.KernelIdeal.Hand

end
-- ==== Proof.TrajI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points, the blocks and the scratch -/

/-- The point of index `n`. -/
def pt (n : ℕ) : Fin cfg0.N := ⟨n % 16, lt_of_lt_of_eq (Nat.mod_lt _ (by decide)) (show 16 = cfg0.N from N_0.symm)⟩

theorem pt_val (t : Fin cfg0.N) : pt t.val = t :=
  Fin.ext (Nat.mod_eq_of_lt (lt_of_lt_of_eq t.isLt (show cfg0.N = 16 from N_0)))

/-- The query block of point `n`. -/
def X0 (c : Dev nD) (n : ℕ) : Vec F S1x512x1024 .f32 := iblk m c 0 (pt n)
/-- The keys at point `n`. -/
def X1 (c : Dev nD) (n : ℕ) : Vec F S512x512 .f32 := iblk m c 1 (pt n)
/-- The transposed keys at point `n`. -/
def X2 (c : Dev nD) (n : ℕ) : Vec F S512x512 .f32 := iblk m c 2 (pt n)

theorem X0_eq (c : Dev nD) (t : Fin cfg0.N) : iblk m c 0 t = X0 m c t.val := by unfold X0; rw [pt_val]
theorem X1_eq (c : Dev nD) (t : Fin cfg0.N) : iblk m c 1 t = X1 m c t.val := by unfold X1; rw [pt_val]
theorem X2_eq (c : Dev nD) (t : Fin cfg0.N) : iblk m c 2 t = X2 m c t.val := by unfold X2; rw [pt_val]

/-- Scratch 0, whole. -/
abbrev sM0 : Memref sig .tc .vmem S8x512x1024 .f32 := Memref.whole cc0_scratch0
/-- Scratch 1, whole. -/
abbrev sM1 : Memref sig .tc .vmem S8x1x1024 .f32 := Memref.whole cc0_scratch1
/-- Scratch 2, whole. -/
abbrev sM2 : Memref sig .tc .vmem S512x1 .f32 := Memref.whole cc0_scratch2
/-- Scratch 3, whole. -/
abbrev sM3 : Memref sig .tc .vmem S512x1 .f32 := Memref.whole cc0_scratch3
/-- Scratch 4, whole. -/
abbrev sM4 : Memref sig .tc .vmem S512x1 .f32 := Memref.whole cc0_scratch4
/-- Scratch 5, whole. -/
abbrev sM5 : Memref sig .tc .vmem S512x512 .f32 := Memref.whole cc0_scratch5

/-! ## What the scratch and the kept outputs hold, visit by visit -/

/-- The score block of visit `n`. -/
def zAt (c : Dev nD) (n : ℕ) : Vec F S1x512x1024 .f32 := k0_pay20 (X1 m c n) (X0 m c n)
/-- The inverse norms of visit `n`. -/
def nAt (c : Dev nD) (n : ℕ) : Vec F S1x1x1024 .f32 := k0_pay18 (X0 m c n)
/-- The running column maximum after first-phase visit `n`. -/
def cmAt (c : Dev nD) : ℕ → Vec F S512x1 .f32
  | 0 => k0_pay23 (X1 m c 0) (X0 m c 0)
  | n + 1 => cmB (X1 m c (n + 1)) (X0 m c (n + 1)) (cmAt c n)
/-- The running column sum after first-phase visit `n`. -/
def csAt (c : Dev nD) : ℕ → Vec F S512x1 .f32
  | 0 => k0_pay24 (X1 m c 0) (X0 m c 0)
  | n + 1 => csB (X1 m c (n + 1)) (X0 m c (n + 1)) (cmAt m c n) (csAt c n)
/-- The keys' squared norms. -/
def knAt (c : Dev nD) : Vec F S512x1 .f32 := k0_pay15 (X1 m c 0)
/-- The memory update accumulated after second-phase visit `n`. -/
def accAt (c : Dev nD) : ℕ → Vec F S512x512 .f32
  | 0 => accC (X0 m c 8) (nAt m c 0) (zAt m c 0) (cmAt m c 7)
  | n + 1 => accD (X0 m c (n + 9)) (nAt m c (n + 1)) (zAt m c (n + 1)) (cmAt m c 7) (accAt c n)
/-- The gathering sum after second-phase visit `n`. -/
def glAt (c : Dev nD) : ℕ → Vec F S1x1 .f32
  | 0 => glC (zAt m c 0) (knAt m c)
  | n + 1 => glD (zAt m c (n + 1)) (knAt m c) (glAt c n)
/-- The spreading sum after second-phase visit `n`. -/
def slAt (c : Dev nD) : ℕ → Vec F S1x1 .f32
  | 0 => slC (zAt m c 0) (knAt m c)
  | n + 1 => slD (zAt m c (n + 1)) (knAt m c) (slAt c n)

/-- The slot `j` of the scores lies inside the scratch. -/
theorem slotS_inb (j : ℕ) (hj : j < 8) : ∀ a, (![j, 0, 0] : Fin 3 → ℕ) a + S1x512x1024.size a ≤ S8x512x1024.size a := fun a => match a with
  | 0 => hj
  | 1 => le_refl 512
  | 2 => le_refl 1024
/-- The slot `j` of the inverse norms lies inside the scratch. -/
theorem slotN_inb (j : ℕ) (hj : j < 8) : ∀ a, (![j, 0, 0] : Fin 3 → ℕ) a + S1x1x1024.size a ≤ S8x1x1024.size a := fun a => match a with
  | 0 => hj
  | 1 => le_refl 1
  | 2 => le_refl 1024

/-- The slot `j` of the scores. -/
def slotS (s : Vec F S8x512x1024 .f32) (j : ℕ) (hj : j < 8) : Vec F S1x512x1024 .f32 := VecWindow.window s ![j, 0, 0] S1x512x1024.size (slotS_inb j hj)
/-- The slot `j` of the inverse norms. -/
def slotN (s : Vec F S8x1x1024 .f32) (j : ℕ) (hj : j < 8) : Vec F S1x1x1024 .f32 := VecWindow.window s ![j, 0, 0] S1x1x1024.size (slotN_inb j hj)

/-- Windows at equal offsets are equal. -/
theorem window_off {s : Shape} {α : Type} (x : s.Idx → α) {off off' : Fin s.rank → ℕ} (size : Fin s.rank → ℕ) (h : off = off') (i1 : ∀ a, off a + size a ≤ s.size a)
    (i2 : ∀ a, off' a + size a ≤ s.size a) : VecWindow.window x off size i1 = VecWindow.window x off' size i2 := by subst h; rfl

theorem ldS_slot (t : Fin cfg0.N) (h : k0_cond5 (grid0.coords t) = 1#1) (s : Vec F S8x512x1024 .f32) : ldS (grid0.coords t) h s = slotS s (t.val % 8) (Nat.mod_lt _ (by decide)) :=
  window_off s _ (off4_eq t) _ _
theorem ldN_slot (t : Fin cfg0.N) (h : k0_cond5 (grid0.coords t) = 1#1) (s : Vec F S8x1x1024 .f32) : ldN (grid0.coords t) h s = slotN s (t.val % 8) (Nat.mod_lt _ (by decide)) :=
  window_off s _ (off3_eq t) _ _

/-- A slot just stored holds what was stored, -/
theorem slotS_put_same (s : Vec F S8x512x1024 .f32) (w : Vec F S1x512x1024 .f32) (j : ℕ) (hj : j < 8) : slotS (VecWindow.put s ![j, 0, 0] S1x512x1024.size w) j hj = w :=
  VecWindow.window_put_same (s := S8x512x1024) s ![j, 0, 0] S1x512x1024.size (slotS_inb j hj) w
/-- and another slot what it held. -/
theorem slotS_put_ne (s : Vec F S8x512x1024 .f32) (w : Vec F S1x512x1024 .f32) (k j : ℕ) (hj : j < 8) (h : j < k) : slotS (VecWindow.put s ![k, 0, 0] S1x512x1024.size w) j hj = slotS s j hj :=
  VecWindow.window_put_of_disjoint (s := S8x512x1024) s ![k, 0, 0] S1x512x1024.size ![j, 0, 0] S1x512x1024.size (slotS_inb j hj) w (0 : Fin 3) (Or.inl h)
/-- The same for the inverse norms. -/
theorem slotN_put_same (s : Vec F S8x1x1024 .f32) (w : Vec F S1x1x1024 .f32) (j : ℕ) (hj : j < 8) : slotN (VecWindow.put s ![j, 0, 0] S1x1x1024.size w) j hj = w :=
  VecWindow.window_put_same (s := S8x1x1024) s ![j, 0, 0] S1x1x1024.size (slotN_inb j hj) w
theorem slotN_put_ne (s : Vec F S8x1x1024 .f32) (w : Vec F S1x1x1024 .f32) (k j : ℕ) (hj : j < 8) (h : j < k) : slotN (VecWindow.put s ![k, 0, 0] S1x1x1024.size w) j hj = slotN s j hj :=
  VecWindow.window_put_of_disjoint (s := S8x1x1024) s ![k, 0, 0] S1x1x1024.size ![j, 0, 0] S1x1x1024.size (slotN_inb j hj) w (0 : Fin 3) (Or.inl h)

/-! ## The invariant between visits -/

/-- What the scratch is known to hold before visit `n`: the slots visited so far, the running maximum and sum, the keys'
    squared norms, and in the second phase the memory update. -/
structure Inv (c : Dev nD) (n : ℕ) (s0 : Vec F S8x512x1024 .f32) (s1 : Vec F S8x1x1024 .f32) (s2 s3 s4 : Vec F S512x1 .f32) (s5 : Vec F S512x512 .f32) : Prop where
  hz : ∀ j (hj : j < 8), j < n → slotS s0 j hj = zAt m c j
  hn : ∀ j (hj : j < 8), j < n → slotN s1 j hj = nAt m c j
  hcm : n ≠ 0 → s2 = cmAt m c (min (n - 1) 7)
  hcs : n ≠ 0 → s3 = csAt m c (min (n - 1) 7)
  hkn : n ≠ 0 → s4 = knAt m c
  hacc : 8 < n → s5 = accAt m c (n - 9)

/-- Before the first visit nothing is known. -/
theorem Inv.start (c : Dev nD) (s0 : Vec F S8x512x1024 .f32) (s1 : Vec F S8x1x1024 .f32) (s2 s3 s4 : Vec F S512x1 .f32) (s5 : Vec F S512x512 .f32) : Inv m c 0 s0 s1 s2 s3 s4 s5 :=
  ⟨fun j _ h => absurd h (Nat.not_lt_zero j), fun j _ h => absurd h (Nat.not_lt_zero j), fun h => absurd rfl h, fun h => absurd rfl h, fun h => absurd rfl h, fun h => absurd h (by decide)⟩

/-- The first visit establishes the invariant. -/
theorem Inv.first (c : Dev nD) (s0 : Vec F S8x512x1024 .f32) (s1 : Vec F S8x1x1024 .f32) (s5 : Vec F S512x512 .f32) :
    Inv m c 1 (VecWindow.put s0 ![0, 0, 0] S1x512x1024.size (k0_pay20 (X1 m c 0) (X0 m c 0))) (VecWindow.put s1 ![0, 0, 0] S1x1x1024.size (k0_pay18 (X0 m c 0)))
      (k0_pay23 (X1 m c 0) (X0 m c 0)) (k0_pay24 (X1 m c 0) (X0 m c 0)) (k0_pay15 (X1 m c 0)) s5 where
  hz j hj h := by
    obtain rfl : j = 0 := by omega
    exact slotS_put_same _ _ _ _
  hn j hj h := by
    obtain rfl : j = 0 := by omega
    exact slotN_put_same _ _ _ _
  hcm _ := rfl
  hcs _ := rfl
  hkn _ := rfl
  hacc h := absurd h (by decide)

/-- A later first-phase visit keeps the invariant. -/
theorem Inv.later (c : Dev nD) (n : ℕ) (h0 : n ≠ 0) (h8 : n < 8) {s0 : Vec F S8x512x1024 .f32} {s1 : Vec F S8x1x1024 .f32} {s2 s3 s4 : Vec F S512x1 .f32} {s5 : Vec F S512x512 .f32}
    (I : Inv m c n s0 s1 s2 s3 s4 s5) :
    Inv m c (n + 1) (VecWindow.put s0 ![n, 0, 0] S1x512x1024.size (k0_pay20 (X1 m c n) (X0 m c n))) (VecWindow.put s1 ![n, 0, 0] S1x1x1024.size (k0_pay18 (X0 m c n)))
      (cmB (X1 m c n) (X0 m c n) s2) (csB (X1 m c n) (X0 m c n) s2 s3) s4 s5 where
  hz j hj h := by
    rcases Nat.lt_succ_iff_lt_or_eq.mp h with h | rfl
    · exact (slotS_put_ne _ _ _ _ _ h).trans (I.hz j hj h)
    · exact slotS_put_same _ _ _ _
  hn j hj h := by
    rcases Nat.lt_succ_iff_lt_or_eq.mp h with h | rfl
    · exact (slotN_put_ne _ _ _ _ _ h).trans (I.hn j hj h)
    · exact slotN_put_same _ _ _ _
  hcm _ := by
    obtain ⟨k, rfl⟩ := Nat.exists_eq_succ_of_ne_zero h0
    rw [I.hcm h0]
    have e1 : min (k.succ - 1) 7 = k := by omega
    have e2 : min (k.succ + 1 - 1) 7 = k + 1 := by omega
    rw [e1, e2]; rfl
  hcs _ := by
    obtain ⟨k, rfl⟩ := Nat.exists_eq_succ_of_ne_zero h0
    rw [I.hcs h0, I.hcm h0]
    have e1 : min (k.succ - 1) 7 = k := by omega
    have e2 : min (k.succ + 1 - 1) 7 = k + 1 := by omega
    rw [e1, e2]; rfl
  hkn _ := I.hkn h0
  hacc h := absurd h (by omega)

/-- A second-phase visit keeps the invariant, whatever it leaves in the memory update being the next of its values. -/
theorem Inv.second (c : Dev nD) (n : ℕ) (h8 : 8 ≤ n) {s0 : Vec F S8x512x1024 .f32} {s1 : Vec F S8x1x1024 .f32} {s2 s3 s4 : Vec F S512x1 .f32} {s5 s5' : Vec F S512x512 .f32}
    (I : Inv m c n s0 s1 s2 s3 s4 s5) (h : s5' = accAt m c (n - 8)) : Inv m c (n + 1) s0 s1 s2 s3 s4 s5' where
  hz j hj _ := I.hz j hj (by omega)
  hn j hj _ := I.hn j hj (by omega)
  hcm _ := by
    have e : min (n + 1 - 1) 7 = min (n - 1) 7 := by omega
    rw [I.hcm (by omega), e]
  hcs _ := by
    have e : min (n + 1 - 1) 7 = min (n - 1) 7 := by omega
    rw [I.hcs (by omega), e]
  hkn _ := I.hkn (by omega)
  hacc _ := h

/-- The region's invariant before visit `n`: the scratch at contents the invariant knows, the generator register at some state. -/
def Phi (c : Dev nD) (n : ℕ) : sProp 𝕄 :=
  iprop((∃ s0 s1 s2 s3 s4 s5, ⌜Inv m c n s0 s1 s2 s3 s4 s5⌝ ∗ owns (c : Thread nD τ) sM0 fullShare s0 ∗ owns (c : Thread nD τ) sM1 fullShare s1
      ∗ owns (c : Thread nD τ) sM2 fullShare s2 ∗ owns (c : Thread nD τ) sM3 fullShare s3 ∗ owns (c : Thread nD τ) sM4 fullShare s4 ∗ owns (c : Thread nD τ) sM5 fullShare s5)
    ∗ (∃ r, prngReg c r))

/-- What the launch hands over, with the scratch as owned memrefs. -/
theorem PhiA_eq (c : Dev nD) :
    (Pipeline.ΦA spec0 c : sProp 𝕄)
      = iprop(iprop((∃ d, owns (c : Thread nD τ) sM0 fullShare d) ∗ (∃ d, owns (c : Thread nD τ) sM1 fullShare d) ∗ (∃ d, owns (c : Thread nD τ) sM2 fullShare d)
        ∗ (∃ d, owns (c : Thread nD τ) sM3 fullShare d) ∗ (∃ d, owns (c : Thread nD τ) sM4 fullShare d) ∗ (∃ d, owns (c : Thread nD τ) sM5 fullShare d)) ∗ (∃ r, prngReg c r)) := by
  unfold Pipeline.ΦA; rw [scopedRest0_eq]; simp only [sM0, sM1, sM2, sM3, sM4, sM5, owns_whole]; try rfl

/-! ## The proof data -/

/-- What visit `n` leaves in the gathering sum's buffer: constant over the first phase, which does not touch it. -/
def glOut (c : Dev nD) (n : ℕ) : Vec F S1x1 .f32 := if n < 8 then glAt m c 0 else if n = 15 then k0_pay12 (glAt m c 7) else glAt m c (n - 8)
/-- The same for the spreading sum. -/
def slOut (c : Dev nD) (n : ℕ) : Vec F S1x1 .f32 := if n < 8 then slAt m c 0 else if n = 15 then k0_pay13 (slAt m c 7) else slAt m c (n - 8)

/-- The proof data of the one pipeline: the arrays as the region finds them, each input's buffer at its block, each output's at
    what its visit computes from the blocks, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => uqB (X0 m c t.val) (X2 m c t.val) (nAt m c (t.val % 8)) (zAt m c (t.val % 8))
    | ⟨4, _⟩ => k0_pay29 (zAt m c (t.val % 8))
    | ⟨5, _⟩ => ssqB (zAt m c (t.val % 8)) (cmAt m c 7) (csAt m c 7)
    | ⟨6, _⟩ => k0_pay14 (accAt m c 7) (X1 m c t.val)
    | ⟨7, _⟩ => glOut m c t.val
    | ⟨8, _⟩ => slOut m c t.val
  Φ t := Phi m c t.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = uqB (X0 m c t.val) (X2 m c t.val) (nAt m c (t.val % 8)) (zAt m c (t.val % 8)) := by dsimp only [dats]
theorem after0_4 (c : Dev nD) (t : Fin cfg0.N) : (dats m 0 c).after 4 t = k0_pay29 (zAt m c (t.val % 8)) := by dsimp only [dats]
theorem after0_5 (c : Dev nD) (t : Fin cfg0.N) : (dats m 0 c).after 5 t = ssqB (zAt m c (t.val % 8)) (cmAt m c 7) (csAt m c 7) := by dsimp only [dats]
theorem after0_6 (c : Dev nD) (t : Fin cfg0.N) : (dats m 0 c).after 6 t = k0_pay14 (accAt m c 7) (X1 m c t.val) := by dsimp only [dats]
theorem after0_7 (c : Dev nD) (t : Fin cfg0.N) : (dats m 0 c).after 7 t = glOut m c t.val := by dsimp only [dats]
theorem after0_8 (c : Dev nD) (t : Fin cfg0.N) : (dats m 0 c).after 8 t = slOut m c t.val := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-! ## Which windows a visit touches -/

theorem idle_3 : ∀ t : Fin cfg0.N, t.val < 8 → cfg0.idle 3 (grid0.coords t) = true := by decide +kernel
theorem noflush_3 : ∀ t : Fin cfg0.N, t.val < 8 → (cfg0.win 3).flush t = false := by decide +kernel
theorem live_3 : ∀ t : Fin cfg0.N, 8 ≤ t.val → cfg0.idle 3 (grid0.coords t) = false := by decide +kernel
theorem idle_4 : ∀ t : Fin cfg0.N, t.val < 8 → cfg0.idle 4 (grid0.coords t) = true := by decide +kernel
theorem noflush_4 : ∀ t : Fin cfg0.N, t.val < 8 → (cfg0.win 4).flush t = false := by decide +kernel
theorem live_4 : ∀ t : Fin cfg0.N, 8 ≤ t.val → cfg0.idle 4 (grid0.coords t) = false := by decide +kernel
theorem idle_5 : ∀ t : Fin cfg0.N, t.val < 8 → cfg0.idle 5 (grid0.coords t) = true := by decide +kernel
theorem noflush_5 : ∀ t : Fin cfg0.N, t.val < 8 → (cfg0.win 5).flush t = false := by decide +kernel
theorem live_5 : ∀ t : Fin cfg0.N, 8 ≤ t.val → cfg0.idle 5 (grid0.coords t) = false := by decide +kernel
theorem idle_6 : ∀ t : Fin cfg0.N, t.val < 15 → cfg0.idle 6 (grid0.coords t) = true := by decide +kernel
theorem noflush_6 : ∀ t : Fin cfg0.N, t.val < 15 → (cfg0.win 6).flush t = false := by decide +kernel
theorem live_6 : ∀ t : Fin cfg0.N, 15 ≤ t.val → cfg0.idle 6 (grid0.coords t) = false := by decide +kernel
theorem idle_7 : ∀ t : Fin cfg0.N, t.val < 8 → cfg0.idle 7 (grid0.coords t) = true := by decide +kernel
theorem noflush_7 : ∀ t : Fin cfg0.N, t.val < 8 → (cfg0.win 7).flush t = false := by decide +kernel
theorem live_7 : ∀ t : Fin cfg0.N, 8 ≤ t.val → cfg0.idle 7 (grid0.coords t) = false := by decide +kernel
theorem idle_8 : ∀ t : Fin cfg0.N, t.val < 8 → cfg0.idle 8 (grid0.coords t) = true := by decide +kernel
theorem noflush_8 : ∀ t : Fin cfg0.N, t.val < 8 → (cfg0.win 8).flush t = false := by decide +kernel
theorem live_8 : ∀ t : Fin cfg0.N, 8 ≤ t.val → cfg0.idle 8 (grid0.coords t) = false := by decide +kernel

/-- Whether the buffer of window 7 holds nothing stored yet, position by position. -/
def freshTab7 : ℕ → Bool := fun n => decide (n < 9) || decide (n = 16)
theorem freshTab7_step : ∀ t : Fin cfg0.N, freshTab7 (t.val + 1) = ((cfg0.win 7).flush t || (cfg0.idle 7 (cfg0.grid.coords t) && freshTab7 t.val)) := by decide +kernel
theorem notFresh7 (t : Fin cfg0.N) (h : 9 ≤ t.val) : cfg0.fresh 7 t.val = false := by
  rw [Pipeline.Cfg.fresh_tab cfg0 7 freshTab7 rfl freshTab7_step t.val (Nat.le_of_lt t.isLt)]
  have hN : t.val < 16 := lt_of_lt_of_eq t.isLt (show cfg0.N = 16 from N_0)
  unfold freshTab7
  rw [decide_eq_false (by omega), decide_eq_false (by omega)]; rfl

/-- The visits that do not touch the gathering sum leave what was there. -/
theorem carry_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have h8 : t.val < 8 := by
    by_contra h
    rw [live_7 t (by omega)] at hi
    exact Bool.false_ne_true hi
  rw [after0_7, after0_7]
  unfold glOut
  have h8' : t.val - 1 < 8 := by omega
  rw [if_pos h8, if_pos h8']

/-- A later second-phase visit finds in the gathering sum's buffer what the visit before left. -/
theorem before_7 (c : Dev nD) (t : Fin cfg0.N) (h : 9 ≤ t.val) (d) : (dats m 0 c).before 7 t d = glAt m c (t.val - 9) := by
  have hN : t.val < 16 := lt_of_lt_of_eq t.isLt (show cfg0.N = 16 from N_0)
  rw [Dat.before_out_traj _ 7 rfl (fun _ _ => rfl) (carry_7 m c) t.val t rfl d, if_neg (by rw [notFresh7 t h]; exact Bool.false_ne_true), after0_7]
  unfold glOut
  have h8 : ¬ t.val - 1 < 8 := by omega
  have h15 : ¬ t.val - 1 = 15 := by omega
  have e : t.val - 1 - 8 = t.val - 9 := by omega
  rw [if_neg h8, if_neg h15, e]

/-- Whether the buffer of window 8 holds nothing stored yet, position by position. -/
def freshTab8 : ℕ → Bool := fun n => decide (n < 9) || decide (n = 16)
theorem freshTab8_step : ∀ t : Fin cfg0.N, freshTab8 (t.val + 1) = ((cfg0.win 8).flush t || (cfg0.idle 8 (cfg0.grid.coords t) && freshTab8 t.val)) := by decide +kernel
theorem notFresh8 (t : Fin cfg0.N) (h : 9 ≤ t.val) : cfg0.fresh 8 t.val = false := by
  rw [Pipeline.Cfg.fresh_tab cfg0 8 freshTab8 rfl freshTab8_step t.val (Nat.le_of_lt t.isLt)]
  have hN : t.val < 16 := lt_of_lt_of_eq t.isLt (show cfg0.N = 16 from N_0)
  unfold freshTab8
  rw [decide_eq_false (by omega), decide_eq_false (by omega)]; rfl

/-- The visits that do not touch the spreading sum leave what was there. -/
theorem carry_8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t _ hi _
  have h8 : t.val < 8 := by
    by_contra h
    rw [live_8 t (by omega)] at hi
    exact Bool.false_ne_true hi
  rw [after0_8, after0_8]
  unfold slOut
  have h8' : t.val - 1 < 8 := by omega
  rw [if_pos h8, if_pos h8']

/-- A later second-phase visit finds in the spreading sum's buffer what the visit before left. -/
theorem before_8 (c : Dev nD) (t : Fin cfg0.N) (h : 9 ≤ t.val) (d) : (dats m 0 c).before 8 t d = slAt m c (t.val - 9) := by
  have hN : t.val < 16 := lt_of_lt_of_eq t.isLt (show cfg0.N = 16 from N_0)
  rw [Dat.before_out_traj _ 8 rfl (fun _ _ => rfl) (carry_8 m c) t.val t rfl d, if_neg (by rw [notFresh8 t h]; exact Bool.false_ne_true), after0_8]
  unfold slOut
  have h8 : ¬ t.val - 1 < 8 := by omega
  have h15 : ¬ t.val - 1 = 15 := by omega
  have e : t.val - 1 - 8 = t.val - 9 := by omega
  rw [if_neg h8, if_neg h15, e]

end Cert.KernelIdeal.Hand

end
-- ==== Proof.RunAI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The first visit: the score and inverse-norm slots stored, the column statistics started, the key norms taken. -/
theorem runA (c : Dev nD) (i : grid0.Coords) (arg2 : Memref sig .tc .vmem S1x512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024x1024 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S8x512x1024 .f32) (harg11 : arg11.IsWhole) (arg12 : Memref sig .tc .vmem S8x1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x512 .f32) (harg16 : arg16.IsWhole) (hc1 : k0_cond1 i = 1#1) (hcI : cInit i) (hcA : ¬cAcc i) (hc5 : ¬k0_cond5 i = 1#1)
    (x0 : Vec F S1x512x1024 .f32) (x1 : Vec F S512x512 .f32) (s0 : Vec F S8x512x1024 .f32) (s1 : Vec F S8x1x1024 .f32) (E : Set ℕ) (K : PUnit → sProp 𝕄) :
    iprop(owns (c : Thread nD τ) arg2 fullShare x0 ∗ owns (c : Thread nD τ) arg3 fullShare x1 ∗ owns (c : Thread nD τ) arg11 fullShare s0 ∗ owns (c : Thread nD τ) arg12 fullShare s1 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg11 fullShare (VecWindow.put s0 (k0_off2 i) S1x512x1024.size (k0_pay20 x1 x0)) ∗ owns (c : Thread nD τ) arg12 fullShare (VecWindow.put s1 (k0_off1 i) S1x1x1024.size (k0_pay18 x0)) ∗ owns (c : Thread nD τ) arg13 fullShare (k0_pay23 x1 x0) ∗ owns (c : Thread nD τ) arg14 fullShare (k0_pay24 x1 x0) ∗ owns (c : Thread nD τ) arg15 fullShare (k0_pay15 x1)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f3, %hf3, H3⟩, ⟨%f11, %hf11, H11⟩, ⟨%f12, %hf12, H12⟩, ⟨%d13, %f13, -, H13⟩, ⟨%d14, %f14, -, H14⟩, ⟨%d15, %f15, -, H15⟩, Hk⟩
  obtain rfl := harg2.eq_unread hf2; obtain rfl := harg3.eq_unread hf3; obtain rfl := harg11.eq_unread hf11; obtain rfl := harg12.eq_unread hf12
  sl_exec (disch := first | sl_exact hc1 | sl_exact hcI | sl_exact hcA | sl_exact hc5)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H11]
  · iexists _; isplitr
    swap; · iexact H11
    ipureintro; rw [View.read_writes_cons_put _ _ _ _ _ rfl, View.writes_nil]; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  isplitl [H12]
  · iexists _; isplitr
    swap; · iexact H12
    ipureintro; rw [View.read_writes_cons_put _ _ _ _ _ rfl, View.writes_nil]; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  isplitl [H13]
  · iexists _; isplitr
    swap; · iexact H13
    ipureintro; refine (st_S512x1 _ _ _ _).trans ?_; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  isplitl [H14]
  · iexists _; isplitr
    swap; · iexact H14
    ipureintro; refine (st_S512x1 _ _ _ _).trans ?_; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  · iexists _; isplitr
    swap; · iexact H15
    ipureintro; refine (st_S512x1 _ _ _ _).trans ?_; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]

end Cert.KernelIdeal.Hand

end
-- ==== Proof.RunBI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- A later first-phase visit: the slots stored, the column statistics carried on. -/
theorem runB (c : Dev nD) (i : grid0.Coords) (arg2 : Memref sig .tc .vmem S1x512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024x1024 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S8x512x1024 .f32) (harg11 : arg11.IsWhole) (arg12 : Memref sig .tc .vmem S8x1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x512 .f32) (harg16 : arg16.IsWhole) (hc1 : k0_cond1 i = 1#1) (hcI : ¬cInit i) (hcA : cAcc i) (hc5 : ¬k0_cond5 i = 1#1)
    (x0 : Vec F S1x512x1024 .f32) (x1 : Vec F S512x512 .f32) (s0 : Vec F S8x512x1024 .f32) (s1 : Vec F S8x1x1024 .f32) (s2 s3 : Vec F S512x1 .f32) (E : Set ℕ) (K : PUnit → sProp 𝕄) :
    iprop(owns (c : Thread nD τ) arg2 fullShare x0 ∗ owns (c : Thread nD τ) arg3 fullShare x1 ∗ owns (c : Thread nD τ) arg11 fullShare s0 ∗ owns (c : Thread nD τ) arg12 fullShare s1 ∗ owns (c : Thread nD τ) arg13 fullShare s2 ∗ owns (c : Thread nD τ) arg14 fullShare s3
        ∗ (iprop(owns (c : Thread nD τ) arg2 fullShare x0 ∗ owns (c : Thread nD τ) arg3 fullShare x1 ∗ owns (c : Thread nD τ) arg11 fullShare (VecWindow.put s0 (k0_off2 i) S1x512x1024.size (k0_pay20 x1 x0)) ∗ owns (c : Thread nD τ) arg12 fullShare (VecWindow.put s1 (k0_off1 i) S1x1x1024.size (k0_pay18 x0)) ∗ owns (c : Thread nD τ) arg13 fullShare (cmB x1 x0 s2) ∗ owns (c : Thread nD τ) arg14 fullShare (csB x1 x0 s2 s3)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f3, %hf3, H3⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg11.eq_unread hf11; obtain rfl := harg12.eq_unread hf12; obtain rfl := harg13.eq_unread hf13; obtain rfl := harg14.eq_unread hf14
  sl_exec (disch := first | sl_exact hc1 | sl_exact hcI | sl_exact hcA | sl_exact hc5)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H11]
  · iexists _; isplitr
    swap; · iexact H11
    ipureintro; rw [View.read_writes_cons_put _ _ _ _ _ rfl, View.writes_nil]; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  isplitl [H12]
  · iexists _; isplitr
    swap; · iexact H12
    ipureintro; rw [View.read_writes_cons_put _ _ _ _ _ rfl, View.writes_nil]; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  isplitl [H13]
  · iexists _; isplitr
    swap; · iexact H13
    ipureintro; unfold cmB; refine (st_S512x1 _ _ _ _).trans ?_; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]
  · iexists _; isplitr
    swap; · iexact H14
    ipureintro; unfold csB; refine (st_S512x1 _ _ _ _).trans ?_; sl_unfold_run_names; simp only [ld_S512x512, ld_S1x512x1024, ld_S512x1, ld_S1x1, ld_S1024x512, cov_S512x512, cov_S1x512x1024, cov_S512x1, cov_S1x1, cov_S1024x512, harg2.read_unread, harg3.read_unread, harg4.read_unread, harg9.read_unread, harg10.read_unread, harg11.read_unread, harg12.read_unread, harg13.read_unread, harg14.read_unread, harg15.read_unread, harg16.read_unread]

end Cert.KernelIdeal.Hand

end
-- ==== Proof.RunCI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The first second-phase visit: the three blocks of results stored, the memory update and the two sums started. -/
theorem runC (c : Dev nD) (i : grid0.Coords) (arg2 : Memref sig .tc .vmem S1x512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024x1024 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S8x512x1024 .f32) (harg11 : arg11.IsWhole) (arg12 : Memref sig .tc .vmem S8x1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x512 .f32) (harg16 : arg16.IsWhole) (hc1 : ¬k0_cond1 i = 1#1) (hc5 : k0_cond5 i = 1#1) (hc6 : k0_cond6 i = 1#1) (hc7 : ¬k0_cond7 i = 1#1) (hc8 : ¬k0_cond8 i = 1#1)
    (x0 : Vec F S1x512x1024 .f32) (x2 : Vec F S512x512 .f32) (s0 : Vec F S8x512x1024 .f32) (s1 : Vec F S8x1x1024 .f32) (s2 s3 s4 : Vec F S512x1 .f32) (E : Set ℕ) (K : PUnit → sProp 𝕄) :
    iprop(owns (c : Thread nD τ) arg2 fullShare x0 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg9 fullShare d) ∗ (∃ d, owns (c : Thread nD τ) arg10 fullShare d) ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ (∃ d, owns (c : Thread nD τ) arg16 fullShare d)
        ∗ (iprop(owns (c : Thread nD τ) arg2 fullShare x0 ∗ owns (c : Thread nD τ) arg4 fullShare x2 ∗ owns (c : Thread nD τ) arg5 fullShare (uqB x0 x2 (ldN i hc5 s1) (ldS i hc5 s0)) ∗ owns (c : Thread nD τ) arg6 fullShare (k0_pay29 (ldS i hc5 s0)) ∗ owns (c : Thread nD τ) arg7 fullShare (ssqB (ldS i hc5 s0) s2 s3) ∗ owns (c : Thread nD τ) arg9 fullShare (glC (ldS i hc5 s0) s4) ∗ owns (c : Thread nD τ) arg10 fullShare (slC (ldS i hc5 s0) s4) ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare (accC x0 (ldN i hc5 s1) (ldS i hc5 s0) s2)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f4, %hf4, H4⟩, ⟨%d5, %f5, -, H5⟩, ⟨%d6, %f6, -, H6⟩, ⟨%d7, %f7, -, H7⟩, ⟨%d9, %f9, -, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  obtain rfl := harg2.eq_unread hf2; obtain rfl := harg4.eq_unread hf4; obtain rfl := harg11.eq_unread hf11; obtain rfl := harg12.eq_unread hf12; obtain rfl := harg13.eq_unread hf13; obtain rfl := harg14.eq_unread hf14; obtain rfl := harg15.eq_unread hf15
  sl_exec (disch := first | sl_exact hc1 | sl_exact hc5 | sl_exact hc6 | sl_exact hc7 | sl_exact hc8)
  sl_step
  iapply Hk
  isplitl [H2]
  · iexists _; isplitr
    swap; · iexact H2
    ipureintro; exact harg2.read_unread _
  isplitl [H4]
  · iexists _; isplitr
    swap; · iexact H4
    ipureintro; exact harg4.read_unread _
  isplitl [H5]
  · iexists _; isplitr
    swap; · iexact H5
    ipureintro; exact read_uq arg5.view _ _ _ x0 x2 (ldN i hc5 s1) (ldS i hc5 s0) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread])
  isplitl [H6]
  · iexists _; isplitr
    swap; · iexact H6
    ipureintro; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H7]
  · iexists _; isplitr
    swap; · iexact H7
    ipureintro; unfold ssqB; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H9]
  · iexists _; isplitr
    swap; · iexact H9
    ipureintro; unfold glC gblk; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H10]
  · iexists _; isplitr
    swap; · iexact H10
    ipureintro; unfold slC; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  · iexists _; isplitr
    swap; · iexact H16
    ipureintro; unfold accC; refine (st_S512x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]

end Cert.KernelIdeal.Hand

end
-- ==== Proof.RunDI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- A middle second-phase visit: the three blocks of results stored, the memory update and the two sums carried on. -/
theorem runD (c : Dev nD) (i : grid0.Coords) (arg2 : Memref sig .tc .vmem S1x512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024x1024 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S8x512x1024 .f32) (harg11 : arg11.IsWhole) (arg12 : Memref sig .tc .vmem S8x1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x512 .f32) (harg16 : arg16.IsWhole) (hc1 : ¬k0_cond1 i = 1#1) (hc5 : k0_cond5 i = 1#1) (hc6 : ¬k0_cond6 i = 1#1) (hc7 : k0_cond7 i = 1#1) (hc8 : ¬k0_cond8 i = 1#1)
    (x0 : Vec F S1x512x1024 .f32) (x2 : Vec F S512x512 .f32) (s0 : Vec F S8x512x1024 .f32) (s1 : Vec F S8x1x1024 .f32) (s2 s3 s4 : Vec F S512x1 .f32) (s5 : Vec F S512x512 .f32) (g1 g2 : Vec F S1x1 .f32) (E : Set ℕ) (K : PUnit → sProp 𝕄) :
    iprop(owns (c : Thread nD τ) arg2 fullShare x0 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg9 fullShare g1 ∗ owns (c : Thread nD τ) arg10 fullShare g2 ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare s5
        ∗ (iprop(owns (c : Thread nD τ) arg2 fullShare x0 ∗ owns (c : Thread nD τ) arg4 fullShare x2 ∗ owns (c : Thread nD τ) arg5 fullShare (uqB x0 x2 (ldN i hc5 s1) (ldS i hc5 s0)) ∗ owns (c : Thread nD τ) arg6 fullShare (k0_pay29 (ldS i hc5 s0)) ∗ owns (c : Thread nD τ) arg7 fullShare (ssqB (ldS i hc5 s0) s2 s3) ∗ owns (c : Thread nD τ) arg9 fullShare (glD (ldS i hc5 s0) s4 g1) ∗ owns (c : Thread nD τ) arg10 fullShare (slD (ldS i hc5 s0) s4 g2) ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare (accD x0 (ldN i hc5 s1) (ldS i hc5 s0) s2 s5)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f4, %hf4, H4⟩, ⟨%d5, %f5, -, H5⟩, ⟨%d6, %f6, -, H6⟩, ⟨%d7, %f7, -, H7⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf2; obtain rfl := harg4.eq_unread hf4; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc1 | sl_exact hc5 | sl_exact hc6 | sl_exact hc7 | sl_exact hc8)
  sl_step
  iapply Hk
  isplitl [H2]
  · iexists _; isplitr
    swap; · iexact H2
    ipureintro; exact harg2.read_unread _
  isplitl [H4]
  · iexists _; isplitr
    swap; · iexact H4
    ipureintro; exact harg4.read_unread _
  isplitl [H5]
  · iexists _; isplitr
    swap; · iexact H5
    ipureintro; exact read_uq arg5.view _ _ _ x0 x2 (ldN i hc5 s1) (ldS i hc5 s0) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread])
  isplitl [H6]
  · iexists _; isplitr
    swap; · iexact H6
    ipureintro; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H7]
  · iexists _; isplitr
    swap; · iexact H7
    ipureintro; unfold ssqB; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H9]
  · iexists _; isplitr
    swap; · iexact H9
    ipureintro; unfold glD gblk; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H10]
  · iexists _; isplitr
    swap; · iexact H10
    ipureintro; unfold slD; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  · iexists _; isplitr
    swap; · iexact H16
    ipureintro; unfold accD; refine (st_S512x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]

end Cert.KernelIdeal.Hand

end
-- ==== Proof.RunEI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.StepsI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1600000 in
/-- The last visit: as the middle ones, then the sums scaled and the updated memory stored. -/
theorem runE (c : Dev nD) (i : grid0.Coords) (arg2 : Memref sig .tc .vmem S1x512x1024 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S1x1024x1024 .f32) (harg5 : arg5.IsWhole) (arg6 : Memref sig .tc .vmem S1024x512 .f32) (harg6 : arg6.IsWhole) (arg7 : Memref sig .tc .vmem S1024x512 .f32) (harg7 : arg7.IsWhole) (arg8 : Memref sig .tc .vmem S512x512 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S8x512x1024 .f32) (harg11 : arg11.IsWhole) (arg12 : Memref sig .tc .vmem S8x1x1024 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x512 .f32) (harg16 : arg16.IsWhole) (hc1 : ¬k0_cond1 i = 1#1) (hc5 : k0_cond5 i = 1#1) (hc6 : ¬k0_cond6 i = 1#1) (hc7 : k0_cond7 i = 1#1) (hc8 : k0_cond8 i = 1#1)
    (x0 : Vec F S1x512x1024 .f32) (x2 : Vec F S512x512 .f32) (s0 : Vec F S8x512x1024 .f32) (s1 : Vec F S8x1x1024 .f32) (s2 s3 s4 : Vec F S512x1 .f32) (x1 : Vec F S512x512 .f32) (s5 : Vec F S512x512 .f32) (g1 g2 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare g1 ∗ owns (c : Thread nD τ) arg10 fullShare g2 ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare s5
        ∗ (iprop(owns (c : Thread nD τ) arg2 fullShare x0 ∗ owns (c : Thread nD τ) arg3 fullShare x1 ∗ owns (c : Thread nD τ) arg4 fullShare x2 ∗ owns (c : Thread nD τ) arg5 fullShare (uqB x0 x2 (ldN i hc5 s1) (ldS i hc5 s0)) ∗ owns (c : Thread nD τ) arg6 fullShare (k0_pay29 (ldS i hc5 s0)) ∗ owns (c : Thread nD τ) arg7 fullShare (ssqB (ldS i hc5 s0) s2 s3) ∗ owns (c : Thread nD τ) arg8 fullShare (k0_pay14 (accD x0 (ldN i hc5 s1) (ldS i hc5 s0) s2 s5) x1) ∗ owns (c : Thread nD τ) arg9 fullShare (k0_pay12 (glD (ldS i hc5 s0) s4 g1)) ∗ owns (c : Thread nD τ) arg10 fullShare (k0_pay13 (slD (ldS i hc5 s0) s4 g2)) ∗ owns (c : Thread nD τ) arg11 fullShare s0 ∗ owns (c : Thread nD τ) arg12 fullShare s1 ∗ owns (c : Thread nD τ) arg13 fullShare s2 ∗ owns (c : Thread nD τ) arg14 fullShare s3 ∗ owns (c : Thread nD τ) arg15 fullShare s4 ∗ owns (c : Thread nD τ) arg16 fullShare (accD x0 (ldN i hc5 s1) (ldS i hc5 s0) s2 s5)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__fused_kernel_eq_skeleton]; unfold cc0__fused_kernel_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf2; obtain rfl := harg3.eq_unread hf3; obtain rfl := harg4.eq_unread hf4; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16
  sl_exec (disch := first | sl_exact hc1 | sl_exact hc5 | sl_exact hc6 | sl_exact hc7 | sl_exact hc8)
  sl_step
  iapply Hk
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact harg4.read_unread _
  isplitl [H5]
  · iexists _; isplitr
    swap; · iexact H5
    ipureintro; exact read_uq arg5.view _ _ _ x0 x2 (ldN i hc5 s1) (ldS i hc5 s0) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]) (by sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread])
  isplitl [H6]
  · iexists _; isplitr
    swap; · iexact H6
    ipureintro; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H7]
  · iexists _; isplitr
    swap; · iexact H7
    ipureintro; unfold ssqB; refine (st_S1024x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H8]
  · iexists _; isplitr
    swap; · iexact H8
    ipureintro; unfold accD; refine (st_S512x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H9]
  · iexists _; isplitr
    swap; · iexact H9
    ipureintro; unfold glD gblk; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H10]
  · iexists _; isplitr
    swap; · iexact H10
    ipureintro; unfold slD; refine (st_S1x1 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]
  isplitl [H11]
  · iexists _; isplitr
    swap; · iexact H11
    ipureintro; exact harg11.read_unread _
  isplitl [H12]
  · iexists _; isplitr
    swap; · iexact H12
    ipureintro; exact harg12.read_unread _
  isplitl [H13]
  · iexists _; isplitr
    swap; · iexact H13
    ipureintro; exact harg13.read_unread _
  isplitl [H14]
  · iexists _; isplitr
    swap; · iexact H14
    ipureintro; exact harg14.read_unread _
  isplitl [H15]
  · iexists _; isplitr
    swap; · iexact H15
    ipureintro; exact harg15.read_unread _
  · iexists _; isplitr
    swap; · iexact H16
    ipureintro; unfold accD; refine (st_S512x512 _ _ _ _).trans ?_; sl_unfold_run_names; simp only [ld_S512x512, ld_S1x512x1024, ld_S512x1, ld_S1x1, ld_S1024x512, cov_S512x512, cov_S1x512x1024, cov_S512x1, cov_S1x1, cov_S1024x512, ld_slotS i hc5, ld_slotN i hc5, harg2.read_unread, harg3.read_unread, harg4.read_unread, harg9.read_unread, harg10.read_unread, harg11.read_unread, harg12.read_unread, harg13.read_unread, harg14.read_unread, harg15.read_unread, harg16.read_unread]

end Cert.KernelIdeal.Hand

end
-- ==== Proof.FrameI.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.TableIdle
public import Idealize.ShloMosaic.Lib.VecWindow
public import Idealize.ShloMosaic.Lib.ValueIdx
public import Idealize.ShloMosaic.Lib.Tactic
public import Idealize.ShloMosaic.Lib.WordCmp
public import proofs.«01_k».proof.Proof.TrajI
public import proofs.«01_k».proof.Proof.RunAI
public import proofs.«01_k».proof.Proof.RunBI
public import proofs.«01_k».proof.Proof.RunCI
public import proofs.«01_k».proof.Proof.RunDI
public import proofs.«01_k».proof.Proof.RunEI
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- The gathering sum's buffer after the first second-phase visit, -/
theorem glOut_first (c : Dev nD) (n : ℕ) (h : n = 8) : glC (zAt m c (n % 8)) (knAt m c) = glOut m c n := by subst h; rfl
/-- after a middle one, -/
theorem glOut_mid (c : Dev nD) (n : ℕ) (h9 : 9 ≤ n) (h : n < 15) : glD (zAt m c (n % 8)) (knAt m c) (glAt m c (n - 9)) = glOut m c n := by
  obtain ⟨k, rfl⟩ := Nat.exists_eq_add_of_le' h9
  unfold glOut
  have e1 : (k + 9) % 8 = k + 1 := by omega
  have e2 : k + 9 - 9 = k := by omega
  have e3 : k + 9 - 8 = k + 1 := by omega
  have h8 : ¬ k + 9 < 8 := by omega
  have h15 : ¬ k + 9 = 15 := by omega
  rw [if_neg h8, if_neg h15, e1, e2, e3]; rfl
/-- and after the last. -/
theorem glOut_last (c : Dev nD) (n : ℕ) (h : n = 15) : k0_pay12 (glD (zAt m c (n % 8)) (knAt m c) (glAt m c (n - 9))) = glOut m c n := by subst h; rfl
/-- The spreading sum's buffer after the first second-phase visit, -/
theorem slOut_first (c : Dev nD) (n : ℕ) (h : n = 8) : slC (zAt m c (n % 8)) (knAt m c) = slOut m c n := by subst h; rfl
/-- after a middle one, -/
theorem slOut_mid (c : Dev nD) (n : ℕ) (h9 : 9 ≤ n) (h : n < 15) : slD (zAt m c (n % 8)) (knAt m c) (slAt m c (n - 9)) = slOut m c n := by
  obtain ⟨k, rfl⟩ := Nat.exists_eq_add_of_le' h9
  unfold slOut
  have e1 : (k + 9) % 8 = k + 1 := by omega
  have e2 : k + 9 - 9 = k := by omega
  have e3 : k + 9 - 8 = k + 1 := by omega
  have h8 : ¬ k + 9 < 8 := by omega
  have h15 : ¬ k + 9 = 15 := by omega
  rw [if_neg h8, if_neg h15, e1, e2, e3]; rfl
/-- and after the last. -/
theorem slOut_last (c : Dev nD) (n : ℕ) (h : n = 15) : k0_pay13 (slD (zAt m c (n % 8)) (knAt m c) (slAt m c (n - 9))) = slOut m c n := by subst h; rfl
/-- The memory update after the first second-phase visit, -/
theorem acc_first (c : Dev nD) (n : ℕ) (h : n = 8) : accC (X0 m c n) (nAt m c (n % 8)) (zAt m c (n % 8)) (cmAt m c 7) = accAt m c (n - 8) := by subst h; rfl
/-- and after a later one. -/
theorem acc_later (c : Dev nD) (n : ℕ) (h9 : 9 ≤ n) (h : n < 16) :
    accD (X0 m c n) (nAt m c (n % 8)) (zAt m c (n % 8)) (cmAt m c 7) (accAt m c (n - 9)) = accAt m c (n - 8) := by
  obtain ⟨k, rfl⟩ := Nat.exists_eq_add_of_le' h9
  have e1 : (k + 9) % 8 = k + 1 := by omega
  have e2 : k + 9 - 9 = k := by omega
  have e3 : k + 9 - 8 = k + 1 := by omega
  rw [e1, e2, e3]; rfl

set_option maxHeartbeats 1600000 in
/-- The first visit. -/
theorem bodyA (c : Dev nD) (t : Fin cfg0.N) (h0 : t.val = 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have h8 : t.val < 8 := by omega
  have h15 : t.val < 15 := by omega
  unfold bodyPre bodyPost bodyAt0
  simp only [before0_0, before0_1, before0_2]
  rw [show (dats m 0 c).owesAt () t.succ = (dats m 0 c).owesAt () t.castSucc from rfl, show (dats m 0 c).Φ t.castSucc = Phi m c t.val from rfl, show (dats m 0 c).Φ t.succ = Phi m c (t.val + 1) from rfl]
  rw [show (dats m 0 c).leavesExact 0 t = owns (c : Thread nD τ) (st0_0 t) fullShare ((dats m 0 c).after 0 t) from by unfold Dat.leavesExact; rw [show cfg0.idle 0 (grid0.coords t) = false from rfl], after0_0]
  rw [show (dats m 0 c).leavesExact 1 t = owns (c : Thread nD τ) (st0_1 t) fullShare ((dats m 0 c).after 1 t) from by unfold Dat.leavesExact; rw [show cfg0.idle 1 (grid0.coords t) = false from rfl], after0_1]
  rw [show (dats m 0 c).leavesExact 2 t = owns (c : Thread nD τ) (st0_2 t) fullShare ((dats m 0 c).after 2 t) from by unfold Dat.leavesExact; rw [show cfg0.idle 2 (grid0.coords t) = false from rfl], after0_2]
  rw [Dat.leavesExact_idle (dats m 0 c) 3 t (idle_3 t h8) (noflush_3 t h8)]
  rw [Dat.leavesExact_idle (dats m 0 c) 4 t (idle_4 t h8) (noflush_4 t h8)]
  rw [Dat.leavesExact_idle (dats m 0 c) 5 t (idle_5 t h8) (noflush_5 t h8)]
  rw [Dat.leavesExact_idle (dats m 0 c) 6 t (idle_6 t h15) (noflush_6 t h15)]
  rw [Dat.leavesExact_idle (dats m 0 c) 7 t (idle_7 t h8) (noflush_7 t h8)]
  rw [Dat.leavesExact_idle (dats m 0 c) 8 t (idle_8 t h8) (noflush_8 t h8)]
  rw [X0_eq, X1_eq, X2_eq]
  unfold Phi
  iintro ⟨⟨⟨%s0, %s1, %s2, %s3, %s4, %s5, %I, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have T := fun K => runA c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) ((c1_iff t).mpr h8) ((cInit_iff t).mpr (by omega)) (fun h => absurd ((cAcc_iff t).mp h) (by omega)) (fun h => absurd ((c5_iff t).mp h) (by omega)) (X0 m c t.val) (X1 m c t.val) s0 s1 Set.univ K
  have hm : t.val % 8 = 0 := by omega
  simp only [off1_eq, off2_eq, hm] at T
  iapply (T _)
  isplitl [H0]; · iexact H0
  isplitl [H1]; · iexact H1
  isplitl [S0]; · iexact S0
  isplitl [S1]; · iexact S1
  isplitl [S2]; · iexists _; iexact S2
  isplitl [S3]; · iexists _; iexact S3
  isplitl [S4]; · iexists _; iexact S4
  iintro ⟨H0, H1, S0, S1, S2, S3, S4⟩
  isplitl [S0 S1 S2 S3 S4 S5 Hg]
  · isplitl [S0 S1 S2 S3 S4 S5]
    · iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        iexact S5
      ipureintro; exact (by rw [h0]; exact Inv.first m c s0 s1 s5)
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iexists _; iexact H8

set_option maxHeartbeats 1600000 in
/-- A later visit of the first phase. -/
theorem bodyB (c : Dev nD) (t : Fin cfg0.N) (h0 : t.val ≠ 0) (h8 : t.val < 8) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have h15 : t.val < 15 := by omega
  unfold bodyPre bodyPost bodyAt0
  simp only [before0_0, before0_1, before0_2]
  rw [show (dats m 0 c).owesAt () t.succ = (dats m 0 c).owesAt () t.castSucc from rfl, show (dats m 0 c).Φ t.castSucc = Phi m c t.val from rfl, show (dats m 0 c).Φ t.succ = Phi m c (t.val + 1) from rfl]
  rw [show (dats m 0 c).leavesExact 0 t = owns (c : Thread nD τ) (st0_0 t) fullShare ((dats m 0 c).after 0 t) from by unfold Dat.leavesExact; rw [show cfg0.idle 0 (grid0.coords t) = false from rfl], after0_0]
  rw [show (dats m 0 c).leavesExact 1 t = owns (c : Thread nD τ) (st0_1 t) fullShare ((dats m 0 c).after 1 t) from by unfold Dat.leavesExact; rw [show cfg0.idle 1 (grid0.coords t) = false from rfl], after0_1]
  rw [show (dats m 0 c).leavesExact 2 t = owns (c : Thread nD τ) (st0_2 t) fullShare ((dats m 0 c).after 2 t) from by unfold Dat.leavesExact; rw [show cfg0.idle 2 (grid0.coords t) = false from rfl], after0_2]
  rw [Dat.leavesExact_idle (dats m 0 c) 3 t (idle_3 t h8) (noflush_3 t h8)]
  rw [Dat.leavesExact_idle (dats m 0 c) 4 t (idle_4 t h8) (noflush_4 t h8)]
  rw [Dat.leavesExact_idle (dats m 0 c) 5 t (idle_5 t h8) (noflush_5 t h8)]
  rw [Dat.leavesExact_idle (dats m 0 c) 6 t (idle_6 t h15) (noflush_6 t h15)]
  rw [Dat.leavesExact_idle (dats m 0 c) 7 t (idle_7 t h8) (noflush_7 t h8)]
  rw [Dat.leavesExact_idle (dats m 0 c) 8 t (idle_8 t h8) (noflush_8 t h8)]
  rw [X0_eq, X1_eq, X2_eq]
  unfold Phi
  iintro ⟨⟨⟨%s0, %s1, %s2, %s3, %s4, %s5, %I, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have T := fun K => runB c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) ((c1_iff t).mpr h8) (fun h => absurd ((cInit_iff t).mp h) (by omega)) ((cAcc_iff t).mpr (by omega)) (fun h => absurd ((c5_iff t).mp h) (by omega)) (X0 m c t.val) (X1 m c t.val) s0 s1 s2 s3 Set.univ K
  have hm : t.val % 8 = t.val := by omega
  simp only [off1_eq, off2_eq, hm] at T
  iapply (T _)
  isplitl [H0]; · iexact H0
  isplitl [H1]; · iexact H1
  isplitl [S0]; · iexact S0
  isplitl [S1]; · iexact S1
  isplitl [S2]; · iexact S2
  isplitl [S3]; · iexact S3
  iintro ⟨H0, H1, S0, S1, S2, S3⟩
  isplitl [S0 S1 S2 S3 S4 S5 Hg]
  · isplitl [S0 S1 S2 S3 S4 S5]
    · iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        iexact S5
      ipureintro; exact Inv.later m c t.val h0 h8 I
    iexact Hg
  isplitl [Ho]; · iexact Ho
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iexists _; iexact H8

set_option maxHeartbeats 1600000 in
/-- The first visit of the second phase. -/
theorem bodyC (c : Dev nD) (t : Fin cfg0.N) (h0 : t.val = 8) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have h8 : 8 ≤ t.val := by omega
  have h15 : t.val < 15 := by omega
  unfold bodyPre bodyPost bodyAt0
  simp only [before0_0, before0_1, before0_2]
  rw [show (dats m 0 c).owesAt () t.succ = (dats m 0 c).owesAt () t.castSucc from rfl, show (dats m 0 c).Φ t.castSucc = Phi m c t.val from rfl, show (dats m 0 c).Φ t.succ = Phi m c (t.val + 1) from rfl]
  rw [show (dats m 0 c).leavesExact 0 t = owns (c : Thread nD τ) (st0_0 t) fullShare ((dats m 0 c).after 0 t) from by unfold Dat.leavesExact; rw [show cfg0.idle 0 (grid0.coords t) = false from rfl], after0_0]
  rw [show (dats m 0 c).leavesExact 1 t = owns (c : Thread nD τ) (st0_1 t) fullShare ((dats m 0 c).after 1 t) from by unfold Dat.leavesExact; rw [show cfg0.idle 1 (grid0.coords t) = false from rfl], after0_1]
  rw [show (dats m 0 c).leavesExact 2 t = owns (c : Thread nD τ) (st0_2 t) fullShare ((dats m 0 c).after 2 t) from by unfold Dat.leavesExact; rw [show cfg0.idle 2 (grid0.coords t) = false from rfl], after0_2]
  rw [show (dats m 0 c).leavesExact 3 t = owns (c : Thread nD τ) (st0_3 t) fullShare ((dats m 0 c).after 3 t) from by unfold Dat.leavesExact; rw [live_3 t h8], after0_3]
  rw [show (dats m 0 c).leavesExact 4 t = owns (c : Thread nD τ) (st0_4 t) fullShare ((dats m 0 c).after 4 t) from by unfold Dat.leavesExact; rw [live_4 t h8], after0_4]
  rw [show (dats m 0 c).leavesExact 5 t = owns (c : Thread nD τ) (st0_5 t) fullShare ((dats m 0 c).after 5 t) from by unfold Dat.leavesExact; rw [live_5 t h8], after0_5]
  rw [show (dats m 0 c).leavesExact 7 t = owns (c : Thread nD τ) (st0_7 t) fullShare ((dats m 0 c).after 7 t) from by unfold Dat.leavesExact; rw [live_7 t h8], after0_7]
  rw [show (dats m 0 c).leavesExact 8 t = owns (c : Thread nD τ) (st0_8 t) fullShare ((dats m 0 c).after 8 t) from by unfold Dat.leavesExact; rw [live_8 t h8], after0_8]
  rw [Dat.leavesExact_idle (dats m 0 c) 6 t (idle_6 t h15) (noflush_6 t h15)]
  rw [X0_eq, X1_eq, X2_eq]
  unfold Phi
  iintro ⟨⟨⟨%s0, %s1, %s2, %s3, %s4, %s5, %I, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have m7 : min (t.val - 1) 7 = 7 := by omega
  have e2 : s2 = cmAt m c 7 := (I.hcm (by omega)).trans (by rw [m7])
  have e3 : s3 = csAt m c 7 := (I.hcs (by omega)).trans (by rw [m7])
  have e4 : s4 = knAt m c := I.hkn (by omega)
  subst e2 e3 e4
  have hc5 : k0_cond5 (grid0.coords t) = 1#1 := (c5_iff t).mpr (by omega)
  have ez : ldS (grid0.coords t) hc5 s0 = zAt m c (t.val % 8) := (ldS_slot t hc5 s0).trans (I.hz _ _ (by omega))
  have en : ldN (grid0.coords t) hc5 s1 = nAt m c (t.val % 8) := (ldN_slot t hc5 s1).trans (I.hn _ _ (by omega))
  have T := fun K => runC c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) (fun h => absurd ((c1_iff t).mp h) (by omega)) hc5 ((c6_iff t).mpr (by omega)) (fun h => absurd ((c7_iff t).mp h) (by omega)) (fun h => absurd ((c8_iff t).mp h) (by omega)) (X0 m c t.val) (X2 m c t.val) s0 s1 (cmAt m c 7) (csAt m c 7) (knAt m c) Set.univ K
  simp only [ez, en, glOut_first m c t.val h0, slOut_first m c t.val h0, acc_first m c t.val h0] at T
  iapply (T _)
  isplitl [H0]; · iexact H0
  isplitl [H2]; · iexact H2
  isplitl [H3]; · iexists _; iexact H3
  isplitl [H4]; · iexists _; iexact H4
  isplitl [H5]; · iexists _; iexact H5
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  isplitl [S5]; · iexists _; iexact S5
  iintro ⟨H0, H2, H3, H4, H5, H7, H8, S0, S1, S2, S3, S4, S5⟩
  isplitl [S0 S1 S2 S3 S4 S5 Hg]
  · isplitl [S0 S1 S2 S3 S4 S5]
    · iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        iexact S5
      ipureintro; exact Inv.second m c t.val h8 I rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexact H8

set_option maxHeartbeats 1600000 in
/-- A middle visit of the second phase. -/
theorem bodyD (c : Dev nD) (t : Fin cfg0.N) (h9 : 9 ≤ t.val) (h15 : t.val < 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have h8 : 8 ≤ t.val := by omega
  unfold bodyPre bodyPost bodyAt0
  simp only [before0_0, before0_1, before0_2, before_7 m c t h9, before_8 m c t h9]
  rw [show (dats m 0 c).owesAt () t.succ = (dats m 0 c).owesAt () t.castSucc from rfl, show (dats m 0 c).Φ t.castSucc = Phi m c t.val from rfl, show (dats m 0 c).Φ t.succ = Phi m c (t.val + 1) from rfl]
  rw [show (dats m 0 c).leavesExact 0 t = owns (c : Thread nD τ) (st0_0 t) fullShare ((dats m 0 c).after 0 t) from by unfold Dat.leavesExact; rw [show cfg0.idle 0 (grid0.coords t) = false from rfl], after0_0]
  rw [show (dats m 0 c).leavesExact 1 t = owns (c : Thread nD τ) (st0_1 t) fullShare ((dats m 0 c).after 1 t) from by unfold Dat.leavesExact; rw [show cfg0.idle 1 (grid0.coords t) = false from rfl], after0_1]
  rw [show (dats m 0 c).leavesExact 2 t = owns (c : Thread nD τ) (st0_2 t) fullShare ((dats m 0 c).after 2 t) from by unfold Dat.leavesExact; rw [show cfg0.idle 2 (grid0.coords t) = false from rfl], after0_2]
  rw [show (dats m 0 c).leavesExact 3 t = owns (c : Thread nD τ) (st0_3 t) fullShare ((dats m 0 c).after 3 t) from by unfold Dat.leavesExact; rw [live_3 t h8], after0_3]
  rw [show (dats m 0 c).leavesExact 4 t = owns (c : Thread nD τ) (st0_4 t) fullShare ((dats m 0 c).after 4 t) from by unfold Dat.leavesExact; rw [live_4 t h8], after0_4]
  rw [show (dats m 0 c).leavesExact 5 t = owns (c : Thread nD τ) (st0_5 t) fullShare ((dats m 0 c).after 5 t) from by unfold Dat.leavesExact; rw [live_5 t h8], after0_5]
  rw [show (dats m 0 c).leavesExact 7 t = owns (c : Thread nD τ) (st0_7 t) fullShare ((dats m 0 c).after 7 t) from by unfold Dat.leavesExact; rw [live_7 t h8], after0_7]
  rw [show (dats m 0 c).leavesExact 8 t = owns (c : Thread nD τ) (st0_8 t) fullShare ((dats m 0 c).after 8 t) from by unfold Dat.leavesExact; rw [live_8 t h8], after0_8]
  rw [Dat.leavesExact_idle (dats m 0 c) 6 t (idle_6 t h15) (noflush_6 t h15)]
  rw [X0_eq, X1_eq, X2_eq]
  unfold Phi
  iintro ⟨⟨⟨%s0, %s1, %s2, %s3, %s4, %s5, %I, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have m7 : min (t.val - 1) 7 = 7 := by omega
  have e2 : s2 = cmAt m c 7 := (I.hcm (by omega)).trans (by rw [m7])
  have e3 : s3 = csAt m c 7 := (I.hcs (by omega)).trans (by rw [m7])
  have e4 : s4 = knAt m c := I.hkn (by omega)
  subst e2 e3 e4
  have hc5 : k0_cond5 (grid0.coords t) = 1#1 := (c5_iff t).mpr (by omega)
  have ez : ldS (grid0.coords t) hc5 s0 = zAt m c (t.val % 8) := (ldS_slot t hc5 s0).trans (I.hz _ _ (by omega))
  have en : ldN (grid0.coords t) hc5 s1 = nAt m c (t.val % 8) := (ldN_slot t hc5 s1).trans (I.hn _ _ (by omega))
  have e5 : s5 = accAt m c (t.val - 9) := I.hacc (by omega)
  subst e5
  have T := fun K => runD c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) (fun h => absurd ((c1_iff t).mp h) (by omega)) hc5 (fun h => absurd ((c6_iff t).mp h) (by omega)) ((c7_iff t).mpr (by omega)) (fun h => absurd ((c8_iff t).mp h) (by omega)) (X0 m c t.val) (X2 m c t.val) s0 s1 (cmAt m c 7) (csAt m c 7) (knAt m c) (accAt m c (t.val - 9)) (glAt m c (t.val - 9)) (slAt m c (t.val - 9)) Set.univ K
  simp only [ez, en, glOut_mid m c t.val h9 h15, slOut_mid m c t.val h9 h15, acc_later m c t.val h9 hN] at T
  iapply (T _)
  isplitl [H0]; · iexact H0
  isplitl [H2]; · iexact H2
  isplitl [H3]; · iexists _; iexact H3
  isplitl [H4]; · iexists _; iexact H4
  isplitl [H5]; · iexists _; iexact H5
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H2, H3, H4, H5, H7, H8, S0, S1, S2, S3, S4, S5⟩
  isplitl [S0 S1 S2 S3 S4 S5 Hg]
  · isplitl [S0 S1 S2 S3 S4 S5]
    · iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        iexact S5
      ipureintro; exact Inv.second m c t.val h8 I rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexact H8

set_option maxHeartbeats 1600000 in
/-- The last visit. -/
theorem bodyE (c : Dev nD) (t : Fin cfg0.N) (h0 : t.val = 15) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have h8 : 8 ≤ t.val := by omega
  have h9 : 9 ≤ t.val := by omega
  have h15 : 15 ≤ t.val := by omega
  unfold bodyPre bodyPost bodyAt0
  simp only [before0_0, before0_1, before0_2, before_7 m c t h9, before_8 m c t h9]
  rw [show (dats m 0 c).owesAt () t.succ = (dats m 0 c).owesAt () t.castSucc from rfl, show (dats m 0 c).Φ t.castSucc = Phi m c t.val from rfl, show (dats m 0 c).Φ t.succ = Phi m c (t.val + 1) from rfl]
  rw [show (dats m 0 c).leavesExact 0 t = owns (c : Thread nD τ) (st0_0 t) fullShare ((dats m 0 c).after 0 t) from by unfold Dat.leavesExact; rw [show cfg0.idle 0 (grid0.coords t) = false from rfl], after0_0]
  rw [show (dats m 0 c).leavesExact 1 t = owns (c : Thread nD τ) (st0_1 t) fullShare ((dats m 0 c).after 1 t) from by unfold Dat.leavesExact; rw [show cfg0.idle 1 (grid0.coords t) = false from rfl], after0_1]
  rw [show (dats m 0 c).leavesExact 2 t = owns (c : Thread nD τ) (st0_2 t) fullShare ((dats m 0 c).after 2 t) from by unfold Dat.leavesExact; rw [show cfg0.idle 2 (grid0.coords t) = false from rfl], after0_2]
  rw [show (dats m 0 c).leavesExact 3 t = owns (c : Thread nD τ) (st0_3 t) fullShare ((dats m 0 c).after 3 t) from by unfold Dat.leavesExact; rw [live_3 t h8], after0_3]
  rw [show (dats m 0 c).leavesExact 4 t = owns (c : Thread nD τ) (st0_4 t) fullShare ((dats m 0 c).after 4 t) from by unfold Dat.leavesExact; rw [live_4 t h8], after0_4]
  rw [show (dats m 0 c).leavesExact 5 t = owns (c : Thread nD τ) (st0_5 t) fullShare ((dats m 0 c).after 5 t) from by unfold Dat.leavesExact; rw [live_5 t h8], after0_5]
  rw [show (dats m 0 c).leavesExact 6 t = owns (c : Thread nD τ) (st0_6 t) fullShare ((dats m 0 c).after 6 t) from by unfold Dat.leavesExact; rw [live_6 t h15], after0_6]
  rw [show (dats m 0 c).leavesExact 7 t = owns (c : Thread nD τ) (st0_7 t) fullShare ((dats m 0 c).after 7 t) from by unfold Dat.leavesExact; rw [live_7 t h8], after0_7]
  rw [show (dats m 0 c).leavesExact 8 t = owns (c : Thread nD τ) (st0_8 t) fullShare ((dats m 0 c).after 8 t) from by unfold Dat.leavesExact; rw [live_8 t h8], after0_8]
  rw [X0_eq, X1_eq, X2_eq]
  unfold Phi
  iintro ⟨⟨⟨%s0, %s1, %s2, %s3, %s4, %s5, %I, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have m7 : min (t.val - 1) 7 = 7 := by omega
  have e2 : s2 = cmAt m c 7 := (I.hcm (by omega)).trans (by rw [m7])
  have e3 : s3 = csAt m c 7 := (I.hcs (by omega)).trans (by rw [m7])
  have e4 : s4 = knAt m c := I.hkn (by omega)
  subst e2 e3 e4
  have hc5 : k0_cond5 (grid0.coords t) = 1#1 := (c5_iff t).mpr (by omega)
  have ez : ldS (grid0.coords t) hc5 s0 = zAt m c (t.val % 8) := (ldS_slot t hc5 s0).trans (I.hz _ _ (by omega))
  have en : ldN (grid0.coords t) hc5 s1 = nAt m c (t.val % 8) := (ldN_slot t hc5 s1).trans (I.hn _ _ (by omega))
  have e5 : s5 = accAt m c (t.val - 9) := I.hacc (by omega)
  subst e5
  have T := fun K => runE c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) sM0 (Memref.isWhole_whole _) sM1 (Memref.isWhole_whole _) sM2 (Memref.isWhole_whole _) sM3 (Memref.isWhole_whole _) sM4 (Memref.isWhole_whole _) sM5 (Memref.isWhole_whole _) (fun h => absurd ((c1_iff t).mp h) (by omega)) hc5 (fun h => absurd ((c6_iff t).mp h) (by omega)) ((c7_iff t).mpr (by omega)) ((c8_iff t).mpr (by omega)) (X0 m c t.val) (X2 m c t.val) s0 s1 (cmAt m c 7) (csAt m c 7) (knAt m c) (X1 m c t.val) (accAt m c (t.val - 9)) (glAt m c (t.val - 9)) (slAt m c (t.val - 9)) Set.univ K
  have e7 : t.val - 8 = 7 := by omega
  simp only [ez, en, acc_later m c t.val h9 hN, e7, glOut_last m c t.val h0, slOut_last m c t.val h0] at T
  iapply (T _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitl [S0 S1 S2 S3 S4 S5]
    · iexists _; iexists _; iexists _; iexists _; iexists _; iexists _
      isplitr
      swap
      · isplitl [S0]; · iexact S0
        isplitl [S1]; · iexact S1
        isplitl [S2]; · iexact S2
        isplitl [S3]; · iexact S3
        isplitl [S4]; · iexact S4
        iexact S5
      ipureintro; exact Inv.second m c t.val h8 I (congrArg (accAt m c) (by omega))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any visit. -/
theorem sound_body (c : Dev nD) (t : Fin cfg0.N) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  rcases Nat.lt_or_ge t.val 8 with h8 | h8
  · rcases Nat.eq_zero_or_pos t.val with h | h
    · exact bodyA m c t h
    · exact bodyB m c t (by omega) h8
  · rcases Nat.eq_or_lt_of_le h8 with h | h
    · exact bodyC m c t h.symm
    · rcases Nat.lt_or_ge t.val 15 with h' | h'
      · exact bodyD m c t h h'
      · exact bodyE m c t (by omega)

/-- The body table's row at a point is the body. -/
theorem row_eq (t : Fin cfg0.N) : defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch hands over is the invariant before the first visit. -/
theorem hin (c : Dev nD) : Pipeline.ΦA spec0 c ⊢ (dats m 0 c).Φ 0 := by
  rw [show (dats m 0 c).Φ 0 = Phi m c 0 from rfl, PhiA_eq]
  unfold Phi
  iintro ⟨⟨⟨%s0, S0⟩, ⟨%s1, S1⟩, ⟨%s2, S2⟩, ⟨%s3, S3⟩, ⟨%s4, S4⟩, ⟨%s5, S5⟩⟩, Hg⟩
  isplitl [S0 S1 S2 S3 S4 S5]
  · iexists s0; iexists s1; iexists s2; iexists s3; iexists s4; iexists s5
    isplitr
    · ipureintro; exact Inv.start m c s0 s1 s2 s3 s4 s5
    isplitl [S0]; · iexact S0
    isplitl [S1]; · iexact S1
    isplitl [S2]; · iexact S2
    isplitl [S3]; · iexact S3
    isplitl [S4]; · iexact S4
    iexact S5
  iexact Hg

/-- The invariant after the last visit gives it back. -/
theorem hout (c : Dev nD) : (dats m 0 c).Φ (Fin.last cfg0.N) ⊢ Pipeline.ΦA spec0 c := by
  rw [show (dats m 0 c).Φ (Fin.last cfg0.N) = Phi m c (Fin.last cfg0.N).val from rfl, PhiA_eq]
  unfold Phi
  iintro ⟨⟨%s0, %s1, %s2, %s3, %s4, %s5, %I, S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
set_option maxHeartbeats 800000 in
/-- The run: it terminates with every array at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiet m ρ))

end Cert.KernelIdeal.Hand

end
-- ==== Proof.Online.lean ====
module

public import Idealize.ShloMosaic.PureOps.Ideal
public import Idealize.ShloMosaic.Lib.Pointwise.Sums

@[expose] public section

noncomputable section

/-! The mathematics of the running softmax over the extended reals: no entry is assumed finite. -/

namespace Cert.Online

open Idealize.ShloMosaic

/-- Exponentials are never negative. -/
theorem exp_nonneg (x : EReal) : 0 ≤ Ideal.exp x := by
  induction x with
  | bot => simp
  | top => simp
  | coe r => rw [Ideal.exp_coe]; exact_mod_cast (Real.exp_pos r).le

/-- Rescaling an exponential from a smaller maximum `m` to a larger one `M`: true at every extended real. -/
theorem exp_rescale {x m M : EReal} (hx : x ≤ m) (hm : m ≤ M) : Ideal.exp (x - m) * Ideal.exp (m - M) = Ideal.exp (x - M) := by
  induction M with
  | bot =>
    obtain rfl := le_bot_iff.mp hm
    obtain rfl := le_bot_iff.mp hx
    simp
  | top => simp [EReal.sub_top]
  | coe M =>
    induction m with
    | bot => obtain rfl := le_bot_iff.mp hx; simp
    | top => exact absurd (top_le_iff.mp hm) (EReal.coe_ne_top M)
    | coe m =>
      induction x with
      | bot => simp [EReal.bot_sub]
      | top => exact absurd (top_le_iff.mp hx) (EReal.coe_ne_top m)
      | coe x =>
        rw [← EReal.coe_sub, ← EReal.coe_sub, ← EReal.coe_sub, Ideal.exp_coe, Ideal.exp_coe, Ideal.exp_coe, ← EReal.coe_mul, ← Real.exp_add]
        congr 2
        ring

/-- Rescaling a whole sum of exponentials. -/
theorem sum_rescale {ι : Type*} (s : Finset ι) (f : ι → EReal) {m M : EReal} (hf : ∀ i ∈ s, f i ≤ m) (hm : m ≤ M) :
    (∑ i ∈ s, Ideal.exp (f i - m)) * Ideal.exp (m - M) = ∑ i ∈ s, Ideal.exp (f i - M) := by
  classical
  induction s using Finset.induction_on with
  | empty => simp
  | insert a s ha ih =>
    rw [Finset.sum_insert ha, Finset.sum_insert ha, EReal.right_distrib_of_nonneg (exp_nonneg _) (Finset.sum_nonneg fun i _ => exp_nonneg _),
      exp_rescale (hf a (Finset.mem_insert_self a s)) hm, ih fun i hi => hf i (Finset.mem_insert_of_mem hi)]

variable (I : EReal) (s : ℕ → Fin 1024 → EReal)

/-- The maximum of one block of pixels. -/
def bmax (n : ℕ) : EReal := Finset.univ.fold max I fun p => s n p

/-- The running maximum after block `n`. -/
def rmax : ℕ → EReal
  | 0 => bmax I s 0
  | n + 1 => max (rmax n) (bmax I s (n + 1))

/-- The running sum of exponentials after block `n`, relative to the running maximum. -/
def rsum : ℕ → EReal
  | 0 => ∑ p, Ideal.exp (s 0 p - bmax I s 0)
  | n + 1 => rsum n * Ideal.exp (rmax I s n - max (rmax I s n) (bmax I s (n + 1)))
      + (∑ p, Ideal.exp (s (n + 1) p - bmax I s (n + 1))) * Ideal.exp (bmax I s (n + 1) - max (rmax I s n) (bmax I s (n + 1)))

/-- Every score of a block is below the block's maximum. -/
theorem le_bmax (n : ℕ) (p : Fin 1024) : s n p ≤ bmax I s n := Finset.le_fold_max _ |>.mpr (Or.inr ⟨p, Finset.mem_univ p, le_rfl⟩)

/-- Every block seen is below the running maximum. -/
theorem bmax_le_rmax (n j : ℕ) (h : j ≤ n) : bmax I s j ≤ rmax I s n := by
  induction n with
  | zero => obtain rfl : j = 0 := by omega
            exact le_rfl
  | succ n ih =>
    rcases Nat.lt_or_ge j (n + 1) with hj | hj
    · exact (ih (by omega)).trans (le_max_left _ _)
    · obtain rfl : j = n + 1 := by omega
      exact le_max_right _ _

/-- The running maximum is the least bound of the blocks seen. -/
theorem rmax_le (n : ℕ) (B : EReal) (hB : ∀ j ≤ n, bmax I s j ≤ B) : rmax I s n ≤ B := by
  induction n with
  | zero => exact hB 0 le_rfl
  | succ n ih => exact max_le (ih fun j hj => hB j (by omega)) (hB (n + 1) le_rfl)

/-- The running sum is the plain sum relative to the running maximum. -/
theorem rsum_eq (n : ℕ) : rsum I s n = ∑ j ∈ Finset.range (n + 1), ∑ p, Ideal.exp (s j p - rmax I s n) := by
  induction n with
  | zero => simp [rsum, rmax]
  | succ n ih =>
    rw [rsum, ih, Finset.sum_range_succ _ (n + 1)]
    have h1 : (∑ j ∈ Finset.range (n + 1), ∑ p, Ideal.exp (s j p - rmax I s n)) * Ideal.exp (rmax I s n - max (rmax I s n) (bmax I s (n + 1)))
        = ∑ j ∈ Finset.range (n + 1), ∑ p, Ideal.exp (s j p - rmax I s (n + 1)) := by
      rw [← Finset.sum_product', ← Finset.sum_product']
      exact sum_rescale _ (fun x : ℕ × Fin 1024 => s x.1 x.2) (fun x hx => (le_bmax I s x.1 x.2).trans
        (bmax_le_rmax I s n x.1 (by have := (Finset.mem_product.mp hx).1; rw [Finset.mem_range] at this; omega))) (le_max_left _ _)
    rw [h1, sum_rescale _ (fun p => s (n + 1) p) (fun p _ => le_bmax I s (n + 1) p) (le_max_right (rmax I s n) _)]
    rfl

/-- After the eighth block the running maximum is the maximum of all 8192 scores. -/
theorem rmax_all (f : Fin 8192 → EReal) (hf : ∀ (n : Fin 8) (p : Fin 1024), s n.val p = f ⟨n.val * 1024 + p.val, by omega⟩) :
    rmax I s 7 = Finset.univ.fold max I f := by
  refine le_antisymm (rmax_le I s 7 _ fun j hj => ?_) ?_
  · refine (Finset.fold_max_le _).mpr ⟨(Finset.le_fold_max _).mpr (Or.inl le_rfl), fun p _ => ?_⟩
    exact (Finset.le_fold_max _).mpr (Or.inr ⟨_, Finset.mem_univ _, (hf ⟨j, by omega⟩ p).le⟩)
  · refine (Finset.fold_max_le _).mpr ⟨le_trans ((Finset.le_fold_max _).mpr (Or.inl le_rfl)) (bmax_le_rmax I s 7 0 (by omega)), fun k _ => ?_⟩
    have hk := hf ⟨k.val / 1024, by omega⟩ ⟨k.val % 1024, by omega⟩
    have e : (⟨k.val / 1024 * 1024 + k.val % 1024, by omega⟩ : Fin 8192) = k := Fin.ext (by show k.val / 1024 * 1024 + k.val % 1024 = k.val; omega)
    have hk2 : f k = s (k.val / 1024) ⟨k.val % 1024, by omega⟩ := ((congrArg f e).symm.trans hk.symm)
    rw [hk2]
    exact (le_bmax I s _ _).trans (bmax_le_rmax I s 7 _ (by omega))

/-- After the eighth block the running sum is the sum over all 8192 pixels. -/
theorem rsum_all (f : Fin 8192 → EReal) (hf : ∀ (n : Fin 8) (p : Fin 1024), s n.val p = f ⟨n.val * 1024 + p.val, by omega⟩) :
    rsum I s 7 = ∑ k, Ideal.exp (f k - Finset.univ.fold max I f) := by
  rw [rsum_eq, rmax_all I s f hf, Finset.sum_range, Fin.sum_univ_tiles 8 1024 rfl]
  exact Finset.sum_congr rfl fun n _ => Finset.sum_congr rfl fun p _ => by rw [hf]

/-- Taking the reduction's start value into account once more changes nothing. -/
theorem max_fold (f : Fin 8192 → EReal) : max I (Finset.univ.fold max I f) = Finset.univ.fold max I f :=
  max_eq_right ((Finset.le_fold_max _).mpr (Or.inl le_rfl))

/-- The same over the memory axis. -/
theorem max_fold' (f : Fin 512 → EReal) : max I (Finset.univ.fold max I f) = Finset.univ.fold max I f :=
  max_eq_right ((Finset.le_fold_max _).mpr (Or.inl le_rfl))

/-- The reference divides by the clamped norm; the kernel multiplies by its reciprocal. -/
theorem mul_inv_eq_div (x y : EReal) (hy : 0 < y) : x * Ideal.div 1 y = Ideal.div x y := by
  rw [Ideal.div, Ideal.div, if_neg hy.ne', if_neg hy.ne', one_mul]

/-- The clamp under the norm, `1e-12` as the programs spell it, is positive. -/
theorem eps_pos : 0 < Ideal.ofBits .f32 730643660#32 := by
  simp only [Ideal.ofBits, Ideal.ieee]
  rw [if_neg (by decide), if_neg (by decide), if_neg (by decide)]
  exact_mod_cast (by positivity)

/-- The clamped norm is positive. -/
theorem clamp_pos (x : EReal) : 0 < max x (Ideal.ofBits .f32 730643660#32) := lt_of_lt_of_le eps_pos (le_max_right _ _)

end Cert.Online
end
-- ==== Proof.Spec.lean ====
module

public import proofs.«01_k».proof.Proof.Online

@[expose] public section

noncomputable section

/-! The three results as formulas over the pixels `n`, the channels `d` and the memory slots `a`:
`x n d` is the query, `k a d` the memory. Only a common vocabulary for the two proofs. -/

namespace Cert.Spec

open Idealize.ShloMosaic

variable (x : Fin 8192 → Fin 512 → EReal) (k : Fin 512 → Fin 512 → EReal)

/-- The query's norm, clamped from below. -/
def den (n : Fin 8192) : EReal := max (Ideal.sqrt (∑ d, x n d * x n d)) (Ideal.ofBits .f32 730643660#32)

/-- The normalised query. -/
def qn (n : Fin 8192) (d : Fin 512) : EReal := Ideal.div (x n d) (den x n)

/-- The score of a pixel against a memory slot. -/
def score (n : Fin 8192) (a : Fin 512) : EReal := ∑ d, qn x n d * k a d

/-- The largest score of a memory slot. -/
def cmax (a : Fin 512) : EReal := Finset.univ.fold max (Ideal.ofBits .f32 4286578688#32) fun n => score x k n a

/-- The largest score of a pixel. -/
def pmax (n : Fin 8192) : EReal := Finset.univ.fold max (Ideal.ofBits .f32 4286578688#32) fun a => score x k n a

/-- The softmax over the pixels. -/
def ssq (n : Fin 8192) (a : Fin 512) : EReal := Ideal.div (Ideal.exp (score x k n a - cmax x k a)) (∑ j, Ideal.exp (score x k j a - cmax x k a))

/-- The softmax over the memory. -/
def ssm (n : Fin 8192) (a : Fin 512) : EReal := Ideal.div (Ideal.exp (score x k n a - pmax x k n)) (∑ j, Ideal.exp (score x k n j - pmax x k n))

/-- The memory read of a pixel. -/
def rd (n : Fin 8192) (e : Fin 512) : EReal := ∑ a, ssm x k n a * k a e

/-- The updated query: the normalised query followed by the memory read. -/
def uq (n : Fin 8192) (e : Fin 1024) : EReal := if h : e.val < 512 then qn x n ⟨e.val, h⟩ else rd x k n ⟨e.val - 512, by omega⟩

end Cert.Spec
end
-- ==== Proof.PayI.lean ====
module

public import proofs.«01_k».proof.Proof.StepsI
public import proofs.«01_k».proof.Proof.Spec
public import Idealize.ShloMosaic.Lib.Pointwise

@[expose] public section

set_option maxRecDepth 16384

noncomputable section

/-! What the kernel's steps compute over the extended reals, read at an index. -/

namespace Cert.KernelIdeal.Hand

open Idealize.ShloMosaic Idealize.ShloMosaic.TcCoe
open Cert.KernelIdeal Cert.KernelIdeal.Gen

section Block

variable (x : Fin 8192 → Fin 512 → EReal) (k : Fin 512 → Fin 512 → EReal)
variable (x0 : FVec Ideal S1x512x1024 .f32) (x1 : FVec Ideal S512x512 .f32) (n : Fin 8)

/-- The pixel at place `p` of block `n`. -/
def pix (p : Fin 1024) : Fin 8192 := ⟨n.val * 1024 + p.val, by omega⟩

/-- The inverse norms of a block. -/
theorem pay18_at (hx : ∀ d p, x0 (ix3 0 d p : S1x512x1024.Idx) = x (pix n p) d) (p : Fin 1024) :
    k0_pay18 (F := Ideal) x0 (ix3 0 0 p : S1x1x1024.Idx) = Ideal.div 1 (Spec.den x (pix n p)) := by
  have h : k0_pay18 (F := Ideal) x0 (ix3 0 0 p : S1x1x1024.Idx)
      = Ideal.div 1 (max (Ideal.sqrt (∑ d, x0 (ix3 0 d p : S1x512x1024.Idx) * x0 (ix3 0 d p : S1x512x1024.Idx))) (Ideal.ofBits .f32 730643660#32)) := by
    pointwise [k0_pay18, k0_pay17, k0_pay16]
  rw [h, Spec.den]
  simp only [hx]

/-- The normalised query of a block. -/
theorem pay30_at (hx : ∀ d p, x0 (ix3 0 d p : S1x512x1024.Idx) = x (pix n p) d) (v : FVec Ideal S1x1x1024 .f32)
    (hv : ∀ p, v (ix3 0 0 p : S1x1x1024.Idx) = Ideal.div 1 (Spec.den x (pix n p))) (d : Fin 512) (p : Fin 1024) :
    k0_pay30 (F := Ideal) x0 v (ix3 0 d p : S1x512x1024.Idx) = Spec.qn x (pix n p) d := by
  have h : k0_pay30 (F := Ideal) x0 v (ix3 0 d p : S1x512x1024.Idx) = x0 (ix3 0 d p : S1x512x1024.Idx) * v (ix3 0 0 p : S1x1x1024.Idx) := by
    pointwise [k0_pay30, k0_pay25]
  rw [h, hx, hv]
  exact Online.mul_inv_eq_div _ _ (Online.clamp_pos _)

/-- The scores of a block, transposed. -/
theorem pay19_at (hx : ∀ d p, x0 (ix3 0 d p : S1x512x1024.Idx) = x (pix n p) d) (hk : ∀ a d, x1 (ix2 a d : S512x512.Idx) = k a d) (a : Fin 512) (p : Fin 1024) :
    k0_pay19 (F := Ideal) x1 x0 (ix2 a p : S512x1024.Idx) = Spec.score x k (pix n p) a := by
  have h : k0_pay19 (F := Ideal) x1 x0 (ix2 a p : S512x1024.Idx) = ∑ d, x1 (ix2 a d : S512x512.Idx) * (x0 (ix3 0 d p : S1x512x1024.Idx)
      * Ideal.div 1 (max (Ideal.sqrt (∑ d, x0 (ix3 0 d p : S1x512x1024.Idx) * x0 (ix3 0 d p : S1x512x1024.Idx))) (Ideal.ofBits .f32 730643660#32))) := by
    pointwise [k0_pay19, k0_pay17, k0_pay16]
  rw [h]
  refine Finset.sum_congr rfl fun d _ => ?_
  simp only [hx, hk]
  rw [Online.mul_inv_eq_div _ _ (Online.clamp_pos _), mul_comm]
  rfl

/-- The stored form of the scores of a block. -/
theorem pay20_at (hx : ∀ d p, x0 (ix3 0 d p : S1x512x1024.Idx) = x (pix n p) d) (hk : ∀ a d, x1 (ix2 a d : S512x512.Idx) = k a d) (a : Fin 512) (p : Fin 1024) :
    k0_pay20 (F := Ideal) x1 x0 (ix3 0 a p : S1x512x1024.Idx) = Spec.score x k (pix n p) a := by
  rw [← pay19_at x k x0 x1 n hx hk]
  pointwise [k0_pay20]

end Block

section Raw

variable (x0 : FVec Ideal S1x512x1024 .f32) (x1 : FVec Ideal S512x512 .f32)

/-- The block maxima. -/
theorem pay21_at (a : Fin 512) : k0_pay21 (F := Ideal) x1 x0 (ix2 a 0 : S512x1.Idx)
    = Finset.univ.fold max (Ideal.ofBits .f32 4286578688#32) fun p => k0_pay20 (F := Ideal) x1 x0 (ix3 0 a p : S1x512x1024.Idx) := by
  pointwise [k0_pay21, k0_pay20]

/-- The block sums of exponentials. -/
theorem pay22_at (a : Fin 512) : k0_pay22 (F := Ideal) x1 x0 (ix2 a 0 : S512x1.Idx)
    = ∑ p, Ideal.exp (k0_pay20 (F := Ideal) x1 x0 (ix3 0 a p : S1x512x1024.Idx) - k0_pay21 (F := Ideal) x1 x0 (ix2 a 0 : S512x1.Idx)) := by
  pointwise [k0_pay22, k0_pay20]

/-- The first running maximum is the first block's. -/
theorem pay23_at (a : Fin 512) : k0_pay23 (F := Ideal) x1 x0 (ix2 a 0 : S512x1.Idx) = k0_pay21 (F := Ideal) x1 x0 (ix2 a 0 : S512x1.Idx) := by
  pointwise [k0_pay23]

/-- The first running sum is the first block's. -/
theorem pay24_at (a : Fin 512) : k0_pay24 (F := Ideal) x1 x0 (ix2 a 0 : S512x1.Idx) = k0_pay22 (F := Ideal) x1 x0 (ix2 a 0 : S512x1.Idx) := by
  pointwise [k0_pay24]

/-- The later running maxima. -/
theorem cmB_at (s2 : FVec Ideal S512x1 .f32) (a : Fin 512) : cmB (F := Ideal) x1 x0 s2 (ix2 a 0 : S512x1.Idx)
    = max (s2 (ix2 a 0 : S512x1.Idx)) (k0_pay21 (F := Ideal) x1 x0 (ix2 a 0 : S512x1.Idx)) := by
  pointwise [cmB, k0_pay3, k0_pay1]

/-- The later running sums. -/
theorem csB_at (s2 s3 : FVec Ideal S512x1 .f32) (a : Fin 512) : csB (F := Ideal) x1 x0 s2 s3 (ix2 a 0 : S512x1.Idx)
    = s3 (ix2 a 0 : S512x1.Idx) * Ideal.exp (s2 (ix2 a 0 : S512x1.Idx) - max (s2 (ix2 a 0 : S512x1.Idx)) (k0_pay21 (F := Ideal) x1 x0 (ix2 a 0 : S512x1.Idx)))
      + k0_pay22 (F := Ideal) x1 x0 (ix2 a 0 : S512x1.Idx) * Ideal.exp (k0_pay21 (F := Ideal) x1 x0 (ix2 a 0 : S512x1.Idx) - max (s2 (ix2 a 0 : S512x1.Idx)) (k0_pay21 (F := Ideal) x1 x0 (ix2 a 0 : S512x1.Idx))) := by
  pointwise [csB, k0_pay2, k0_pay1]

end Raw

section Second

variable (x : Fin 8192 → Fin 512 → EReal) (k : Fin 512 → Fin 512 → EReal) (n : Fin 8)
variable (z : FVec Ideal S1x512x1024 .f32)

/-- The softmax over the memory, transposed. -/
theorem pay28_at (hz : ∀ a p, z (ix3 0 a p : S1x512x1024.Idx) = Spec.score x k (pix n p) a) (a : Fin 512) (p : Fin 1024) :
    k0_pay28 (F := Ideal) z (ix2 a p : S512x1024.Idx) = Spec.ssm x k (pix n p) a := by
  have h : k0_pay28 (F := Ideal) z (ix2 a p : S512x1024.Idx) = Ideal.div
      (Ideal.exp (z (ix3 0 a p : S1x512x1024.Idx) - Finset.fold max (Ideal.ofBits .f32 4286578688#32) (fun j => z (ix3 0 j p : S1x512x1024.Idx)) Finset.univ))
      (∑ j, Ideal.exp (z (ix3 0 j p : S1x512x1024.Idx) - Finset.fold max (Ideal.ofBits .f32 4286578688#32) (fun j => z (ix3 0 j p : S1x512x1024.Idx)) Finset.univ)) := by
    pointwise [k0_pay28, k0_pay27, k0_pay26]
  rw [h]
  simp only [hz]
  rfl

/-- The softmax over the memory. -/
theorem pay29_at (hz : ∀ a p, z (ix3 0 a p : S1x512x1024.Idx) = Spec.score x k (pix n p) a) (p : Fin 1024) (a : Fin 512) :
    k0_pay29 (F := Ideal) z (ix2 p a : S1024x512.Idx) = Spec.ssm x k (pix n p) a := by
  rw [← pay28_at x k n z hz]
  pointwise [k0_pay29]

/-- The memory read. -/
theorem pay31_at (hz : ∀ a p, z (ix3 0 a p : S1x512x1024.Idx) = Spec.score x k (pix n p) a) (x2 : FVec Ideal S512x512 .f32)
    (h2 : ∀ d a, x2 (ix2 d a : S512x512.Idx) = k a d) (e : Fin 512) (p : Fin 1024) :
    k0_pay31 (F := Ideal) z x2 (ix3 0 e p : S1x512x1024.Idx) = Spec.rd x k (pix n p) e := by
  have h : k0_pay31 (F := Ideal) z x2 (ix3 0 e p : S1x512x1024.Idx) = ∑ a, x2 (ix2 e a : S512x512.Idx) * k0_pay28 (F := Ideal) z (ix2 a p : S512x1024.Idx) := by
    pointwise [k0_pay31]
  rw [h]
  refine Finset.sum_congr rfl fun a _ => ?_
  rw [h2, pay28_at x k n z hz, mul_comm]

/-- The softmax over the pixels, from the running maximum and sum. -/
theorem ssqB_at (hz : ∀ a p, z (ix3 0 a p : S1x512x1024.Idx) = Spec.score x k (pix n p) a) (s2 s3 : FVec Ideal S512x1 .f32)
    (h2 : ∀ a, s2 (ix2 a 0 : S512x1.Idx) = Spec.cmax x k a) (h3 : ∀ a, s3 (ix2 a 0 : S512x1.Idx) = ∑ j, Ideal.exp (Spec.score x k j a - Spec.cmax x k a))
    (p : Fin 1024) (a : Fin 512) : ssqB (F := Ideal) z s2 s3 (ix2 p a : S1024x512.Idx) = Spec.ssq x k (pix n p) a := by
  have h : ssqB (F := Ideal) z s2 s3 (ix2 p a : S1024x512.Idx) = Ideal.div (Ideal.exp (z (ix3 0 a p : S1x512x1024.Idx) - s2 (ix2 a 0 : S512x1.Idx))) (s3 (ix2 a 0 : S512x1.Idx)) := by
    pointwise [ssqB, k0_pay33, k0_pay32, k0_pay26]
  rw [h, hz, h2, h3]
  rfl

/-- The two halves of the updated query's block. -/
theorem uqB_at (x0 : FVec Ideal S1x512x1024 .f32) (hx : ∀ d p, x0 (ix3 0 d p : S1x512x1024.Idx) = x (pix n p) d) (v : FVec Ideal S1x1x1024 .f32)
    (hv : ∀ p, v (ix3 0 0 p : S1x1x1024.Idx) = Ideal.div 1 (Spec.den x (pix n p)))
    (hz : ∀ a p, z (ix3 0 a p : S1x512x1024.Idx) = Spec.score x k (pix n p) a) (x2 : FVec Ideal S512x512 .f32) (h2 : ∀ d a, x2 (ix2 d a : S512x512.Idx) = k a d)
    (e p : Fin 1024) : uqB (F := Ideal) x0 x2 v z (ix3 0 e p : S1x1024x1024.Idx) = Spec.uq x k (pix n p) e := by
  unfold uqB VecWindow.put Spec.uq
  by_cases he : e.val < 512
  · rw [dif_neg (fun h => absurd (h 1).1 (by show ¬ (512 ≤ e.val); omega)), dif_pos he, ← pay30_at x x0 n hx v hv]
    refine congrArg (k0_pay30 (F := Ideal) x0 v) (funext fun b => ?_)
    match b with
    | ⟨0, _⟩ => rfl
    | ⟨1, _⟩ => exact Fin.ext (Nat.mod_eq_of_lt he)
    | ⟨2, _⟩ => rfl
  · rw [dif_pos (fun a => match a with
      | ⟨0, _⟩ => ⟨Nat.zero_le _, by show 0 < 0 + 1; omega⟩
      | ⟨1, _⟩ => ⟨by show 512 ≤ e.val; omega, by show e.val < 512 + 512; omega⟩
      | ⟨2, _⟩ => ⟨Nat.zero_le _, by show p.val < 0 + 1024; omega⟩), dif_neg he, ← pay31_at x k n z hz x2 h2]
    congr 1
    idx_ext

end Second

end Cert.KernelIdeal.Hand
end
-- ==== Proof.RefV.lean ====
module

public import proofs.«01_k».proof.Proof.Gen.ReferenceIdeal.Read
public import proofs.«01_k».proof.Proof.Spec
public import Idealize.ShloMosaic.Lib.Pointwise

@[expose] public section

set_option maxRecDepth 16384

noncomputable section

/-! The reference's three results, read at an index. -/

namespace Cert.ReferenceIdeal.Hand

open Idealize.ShloMosaic Idealize.ShloMosaic.TcCoe
open Cert.ReferenceIdeal Cert.ReferenceIdeal.Gen Cert.ReferenceIdeal.Read

variable (x0 : (⟨S8x512x32x32, .f32⟩ : BufTy).Contents (Elt Ideal)) (x1 : (⟨S512x512, .f32⟩ : BufTy).Contents (Elt Ideal))

/-- The query by pixel and channel. -/
def qx (n : Fin 8192) (d : Fin 512) : EReal := (x0 (ix4 ⟨n.val / 1024, by omega⟩ d ⟨n.val / 32 % 32, by omega⟩ ⟨n.val % 32, by omega⟩ : S8x512x32x32.Idx) : EReal)

/-- The memory by slot and channel. -/
def kx (a d : Fin 512) : EReal := (x1 (ix2 a d : S512x512.Idx) : EReal)

/-- The normalised query. -/
theorem v8_at (b : Fin 8) (h w : Fin 32) (d : Fin 512) : val_main_v8 (F := Ideal) x0 (ix4 b h w d : S8x32x32x512.Idx)
    = Ideal.div (x0 (ix4 b d h w : S8x512x32x32.Idx)) (max (Ideal.sqrt (∑ e : Fin 512, (show EReal from x0 (ix4 b e h w : S8x512x32x32.Idx)) * (show EReal from x0 (ix4 b e h w : S8x512x32x32.Idx)))) (Ideal.ofBits .f32 730643660#32)) := by
  pointwise [val_main_v8, val_main_v7, val_main_v6, val_main_v5, val_main_v4, val_main_v3, val_main_v2, val_main_v1, val_main_v0, val_main_cst_0, val_main_cst]

/-- The normalised query, one row per pixel. -/
theorem v34_at (n : Fin 8192) (d : Fin 512) : val_main_v34 (F := Ideal) x0 (ix2 n d : S8192x512.Idx) = Spec.qn (qx x0) n d := by
  have h : val_main_v34 (F := Ideal) x0 (ix2 n d : S8192x512.Idx) = val_main_v8 (F := Ideal) x0 (ix4 ⟨n.val / 1024, by omega⟩ ⟨n.val / 32 % 32, by omega⟩ ⟨n.val % 32, by omega⟩ d : S8x32x32x512.Idx) := by
    unfold val_main_v34
    generalize val_main_v8 (F := Ideal) x0 = y
    pointwise []
  exact h.trans (v8_at x0 _ _ _ d)

/-- The scores. -/
theorem v11_at (n : Fin 8192) (a : Fin 512) : val_main_v11 (F := Ideal) x0 x1 (ix2 n a : S8192x512.Idx) = Spec.score (qx x0) (kx x1) n a := by
  have h : val_main_v11 (F := Ideal) x0 x1 (ix2 n a : S8192x512.Idx)
      = ∑ d : Fin 512, (show EReal from val_main_v8 (F := Ideal) x0 (ix4 ⟨n.val / 1024, by omega⟩ ⟨n.val / 32 % 32, by omega⟩ ⟨n.val % 32, by omega⟩ d : S8x32x32x512.Idx)) * (show EReal from x1 (ix2 a d : S512x512.Idx)) := by
    unfold val_main_v11 val_main_v10 val_main_v9
    generalize val_main_v8 (F := Ideal) x0 = y
    pointwise []
  rw [h]
  refine Finset.sum_congr rfl fun d _ => congrArg₂ (· * ·) ?_ rfl
  exact v8_at x0 _ _ _ d

/-- The largest score of a slot. -/
theorem v14_at (a : Fin 512) : val_main_v14 (F := Ideal) x0 x1 (ix1 a : S512.Idx) = Spec.cmax (qx x0) (kx x1) a := by
  have h : val_main_v12 (F := Ideal) x0 x1 (ix1 a : S512.Idx)
      = Finset.univ.fold max (Ideal.ofBits .f32 4286578688#32) fun n : Fin 8192 => val_main_v11 (F := Ideal) x0 x1 (ix2 n a : S8192x512.Idx) := by
    unfold val_main_v12
    generalize val_main_v11 (F := Ideal) x0 x1 = y
    pointwise [val_main_cst_1]
  rw [val_main_v14_apply, val_main_v13_apply, val_main_cst_2_apply, h]
  refine (Online.max_fold _ _).trans ?_
  exact congrArg (Finset.univ.fold max _) (funext fun n => v11_at x0 x1 n a)

/-- The numerators of the softmax over the pixels. -/
theorem v18_at (n : Fin 8192) (a : Fin 512) : val_main_v18 (F := Ideal) x0 x1 (ix2 n a : S8192x512.Idx)
    = Ideal.exp (Spec.score (qx x0) (kx x1) n a - Spec.cmax (qx x0) (kx x1) a) := by
  have h : val_main_v18 (F := Ideal) x0 x1 (ix2 n a : S8192x512.Idx)
      = Ideal.exp ((show EReal from val_main_v11 (F := Ideal) x0 x1 (ix2 n a : S8192x512.Idx)) - (show EReal from val_main_v14 (F := Ideal) x0 x1 (ix1 a : S512.Idx))) := by
    unfold val_main_v18 val_main_v17 val_main_v16 val_main_v15
    generalize val_main_v11 (F := Ideal) x0 x1 = y
    generalize val_main_v14 (F := Ideal) x0 x1 = z
    pointwise []
  rw [h, v11_at, v14_at]

/-- Result 3: the softmax over the pixels. -/
theorem v22_at (n : Fin 8192) (a : Fin 512) : val_main_v22 (F := Ideal) x0 x1 (ix2 n a : S8192x512.Idx) = Spec.ssq (qx x0) (kx x1) n a := by
  have h : val_main_v22 (F := Ideal) x0 x1 (ix2 n a : S8192x512.Idx)
      = Ideal.div (val_main_v18 (F := Ideal) x0 x1 (ix2 n a : S8192x512.Idx)) (∑ j : Fin 8192, val_main_v18 (F := Ideal) x0 x1 (ix2 j a : S8192x512.Idx)) := by
    unfold val_main_v22 val_main_v21 val_main_v20 val_main_v19
    generalize val_main_v18 (F := Ideal) x0 x1 = y
    pointwise [val_main_cst_3]
  rw [h, v18_at]
  exact congrArg (Ideal.div _) (Finset.sum_congr rfl fun j _ => v18_at x0 x1 j a)

/-- The largest score of a pixel. -/
theorem v25_at (n : Fin 8192) : val_main_v25 (F := Ideal) x0 x1 (ix1 n : S8192.Idx) = Spec.pmax (qx x0) (kx x1) n := by
  have h : val_main_v23 (F := Ideal) x0 x1 (ix1 n : S8192.Idx)
      = Finset.univ.fold max (Ideal.ofBits .f32 4286578688#32) fun a : Fin 512 => val_main_v11 (F := Ideal) x0 x1 (ix2 n a : S8192x512.Idx) := by
    unfold val_main_v23
    generalize val_main_v11 (F := Ideal) x0 x1 = y
    pointwise [val_main_cst_4]
  rw [val_main_v25_apply, val_main_v24_apply, val_main_cst_5_apply, h]
  refine (Online.max_fold' _ _).trans ?_
  exact congrArg (Finset.univ.fold max _) (funext fun a => v11_at x0 x1 n a)

/-- The numerators of the softmax over the memory. -/
theorem v29_at (n : Fin 8192) (a : Fin 512) : val_main_v29 (F := Ideal) x0 x1 (ix2 n a : S8192x512.Idx)
    = Ideal.exp (Spec.score (qx x0) (kx x1) n a - Spec.pmax (qx x0) (kx x1) n) := by
  have h : val_main_v29 (F := Ideal) x0 x1 (ix2 n a : S8192x512.Idx)
      = Ideal.exp ((show EReal from val_main_v11 (F := Ideal) x0 x1 (ix2 n a : S8192x512.Idx)) - (show EReal from val_main_v25 (F := Ideal) x0 x1 (ix1 n : S8192.Idx))) := by
    unfold val_main_v29 val_main_v28 val_main_v27 val_main_v26
    generalize val_main_v11 (F := Ideal) x0 x1 = y
    generalize val_main_v25 (F := Ideal) x0 x1 = z
    pointwise []
  rw [h, v11_at, v25_at]

/-- Result 4: the softmax over the memory. -/
theorem v33_at (n : Fin 8192) (a : Fin 512) : val_main_v33 (F := Ideal) x0 x1 (ix2 n a : S8192x512.Idx) = Spec.ssm (qx x0) (kx x1) n a := by
  have h : val_main_v33 (F := Ideal) x0 x1 (ix2 n a : S8192x512.Idx)
      = Ideal.div (val_main_v29 (F := Ideal) x0 x1 (ix2 n a : S8192x512.Idx)) (∑ j : Fin 512, val_main_v29 (F := Ideal) x0 x1 (ix2 n j : S8192x512.Idx)) := by
    unfold val_main_v33 val_main_v32 val_main_v31 val_main_v30
    generalize val_main_v29 (F := Ideal) x0 x1 = y
    pointwise [val_main_cst_6]
  rw [h, v29_at]
  exact congrArg (Ideal.div _) (Finset.sum_congr rfl fun j _ => v29_at x0 x1 n j)

/-- The memory read. -/
theorem v35_at (n : Fin 8192) (e : Fin 512) : val_main_v35 (F := Ideal) x0 x1 (ix2 n e : S8192x512.Idx) = Spec.rd (qx x0) (kx x1) n e := by
  have h : val_main_v35 (F := Ideal) x0 x1 (ix2 n e : S8192x512.Idx)
      = ∑ a : Fin 512, (show EReal from val_main_v33 (F := Ideal) x0 x1 (ix2 n a : S8192x512.Idx)) * (show EReal from x1 (ix2 a e : S512x512.Idx)) := by
    unfold val_main_v35
    generalize val_main_v33 (F := Ideal) x0 x1 = y
    pointwise []
  rw [h]
  exact Finset.sum_congr rfl fun a _ => congrArg₂ (· * ·) (v33_at x0 x1 n a) rfl

/-- The two halves, one row per pixel. -/
theorem v36_at (n : Fin 8192) (e : Fin 1024) : val_main_v36 (F := Ideal) x0 x1 (ix2 n e : S8192x1024.Idx) = Spec.uq (qx x0) (kx x1) n e := by
  have h : val_main_v36 (F := Ideal) x0 x1 (ix2 n e : S8192x1024.Idx)
      = if h : e.val < 512 then val_main_v34 (F := Ideal) x0 (ix2 n ⟨e.val, h⟩ : S8192x512.Idx) else val_main_v35 (F := Ideal) x0 x1 (ix2 n ⟨e.val - 512, by omega⟩ : S8192x512.Idx) := by
    unfold val_main_v36
    generalize val_main_v34 (F := Ideal) x0 = y
    generalize val_main_v35 (F := Ideal) x0 x1 = z
    pointwise [Value.fn_main_v36]
  rw [h, Spec.uq]
  by_cases he : e.val < 512
  · rw [dif_pos he, dif_pos he]; exact v34_at x0 n _
  · rw [dif_neg he, dif_neg he]; exact v35_at x0 x1 n _

/-- Result 1: the updated query. -/
theorem v39_at (b : Fin 8) (e p : Fin 1024) : val_main_v39 (F := Ideal) x0 x1 (ix3 b e p : S8x1024x1024.Idx) = Spec.uq (qx x0) (kx x1) ⟨b.val * 1024 + p.val, by omega⟩ e := by
  rw [← v36_at, val_main_v39_apply, val_main_v38_apply, val_main_v37_apply]
  congr 1
  idx_ext

end Cert.ReferenceIdeal.Hand
end
-- ==== Proof.ValueI.lean ====
module

public import proofs.«01_k».proof.Proof.FrameI
public import proofs.«01_k».proof.Proof.PayI
public import proofs.«01_k».proof.Proof.RefV
public import Idealize.ShloMosaic.Lib.Pipeline.ValueKit

@[expose] public section

set_option maxRecDepth 16384

noncomputable section

/-! The kernel's three result arrays, read at an index. -/

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The query the kernel is given, by pixel and channel. -/
def qm (c : Dev nD) : Fin 8192 → Fin 512 → EReal := Cert.ReferenceIdeal.Hand.qx (m ((c : Thread nD τ).loc main_arg0))
/-- The memory the kernel is given. -/
def km (c : Dev nD) : Fin 512 → Fin 512 → EReal := Cert.ReferenceIdeal.Hand.kx (m ((c : Thread nD τ).loc main_arg1))

/-- Where every window's block sits at a grid point. -/
theorem idx : ∀ t : Fin cfg0.N, win0_0.index t = ![t.val % 8, 0, 0] ∧ win0_1.index t = ![0, 0] ∧ win0_2.index t = ![0, 0] :=
  (by decide +kernel : ∀ t : Fin grid0.N, _)

/-- Where the blocks of the results sit in the second half of the grid. -/
theorem idxO : ∀ t : Fin cfg0.N, 8 ≤ t.val → win0_3.index t = ![t.val % 8, 0, 0] ∧ win0_4.index t = ![t.val % 8, 0] ∧ win0_5.index t = ![t.val % 8, 0] :=
  (by decide +kernel : ∀ t : Fin grid0.N, _)

/-- The query block of a point. -/
theorem X0_at (c : Dev nD) (j : ℕ) (hj : j < 16) (n : Fin 8) (hn : j % 8 = n.val) (d : Fin 512) (p : Fin 1024) :
    X0 m c j (ix3 0 d p : S1x512x1024.Idx) = qm m c (pix n p) d := by
  unfold X0 qm Cert.ReferenceIdeal.Hand.qx pix
  have e : (pt j).val = j := by show j % 16 = j; omega
  have hi := idx (pt j)
  rw [e, hn] at hi
  blk_simp [iblk, hi]
  entry_read
  pointwise []
  blk_ext [hi]

/-- The keys at a point. -/
theorem X1_at (c : Dev nD) (j : ℕ) (a d : Fin 512) : X1 m c j (ix2 a d : S512x512.Idx) = km m c a d := by
  unfold X1 km Cert.ReferenceIdeal.Hand.kx
  blk_ext [iblk, V, idx (pt j)]

/-- The transposed keys at a point. -/
theorem X2_at (c : Dev nD) (j : ℕ) (d a : Fin 512) : X2 m c j (ix2 d a : S512x512.Idx) = km m c a d := by
  unfold X2 km Cert.ReferenceIdeal.Hand.kx
  blk_simp [iblk, idx (pt j)]
  entry_read
  pointwise []
  blk_ext [idx (pt j)]

/-- The scores kept for block `n`. -/
theorem zAt_at (c : Dev nD) (n : Fin 8) (a : Fin 512) (p : Fin 1024) : zAt m c n.val (ix3 0 a p : S1x512x1024.Idx) = Spec.score (qm m c) (km m c) (pix n p) a :=
  pay20_at _ _ _ _ n (X0_at m c n.val (by omega) n (by omega)) (X1_at m c n.val) a p

/-- The inverse norms kept for block `n`. -/
theorem nAt_at (c : Dev nD) (n : Fin 8) (p : Fin 1024) : nAt m c n.val (ix3 0 0 p : S1x1x1024.Idx) = Ideal.div 1 (Spec.den (qm m c) (pix n p)) :=
  pay18_at _ _ n (X0_at m c n.val (by omega) n (by omega)) p

/-- The running maximum after block `n`. -/
theorem cmAt_at (c : Dev nD) (a : Fin 512) (n : ℕ) : cmAt m c n (ix2 a 0 : S512x1.Idx)
    = Online.rmax (Ideal.ofBits .f32 4286578688#32) (fun j p => zAt m c j (ix3 0 a p : S1x512x1024.Idx)) n := by
  induction n with
  | zero => exact (pay23_at _ _ a).trans (pay21_at _ _ a)
  | succ n ih =>
    refine (cmB_at _ _ _ a).trans ?_
    rw [ih, pay21_at]
    rfl

/-- The running sum after block `n`. -/
theorem csAt_at (c : Dev nD) (a : Fin 512) (n : ℕ) : csAt m c n (ix2 a 0 : S512x1.Idx)
    = Online.rsum (Ideal.ofBits .f32 4286578688#32) (fun j p => zAt m c j (ix3 0 a p : S1x512x1024.Idx)) n := by
  induction n with
  | zero =>
    refine (pay24_at _ _ a).trans ?_
    rw [pay22_at, pay21_at]
    rfl
  | succ n ih =>
    refine (csB_at _ _ _ _ a).trans ?_
    rw [ih, cmAt_at, pay22_at, pay21_at]
    rfl

/-- The maximum of each memory slot's scores, after the first half of the grid. -/
theorem cm_at (c : Dev nD) (a : Fin 512) : cmAt m c 7 (ix2 a 0 : S512x1.Idx) = Spec.cmax (qm m c) (km m c) a :=
  (cmAt_at m c a 7).trans (Online.rmax_all _ _ _ fun n p => zAt_at m c n a p)

/-- The sum of each memory slot's exponentials, after the first half of the grid. -/
theorem cs_at (c : Dev nD) (a : Fin 512) : csAt m c 7 (ix2 a 0 : S512x1.Idx) = ∑ j, Ideal.exp (Spec.score (qm m c) (km m c) j a - Spec.cmax (qm m c) (km m c) a) :=
  (csAt_at m c a 7).trans (Online.rsum_all _ _ _ fun n p => zAt_at m c n a p)

/-- The block of a flushing point. -/
def blkOf (t : Fin cfg0.N) : Fin 8 := ⟨t.val % 8, Nat.mod_lt _ (by decide)⟩

/-- Only the second half of the grid writes results back. -/
theorem flush_late (t : Fin cfg0.N) (h : t.val < 8 → False) : 8 ≤ t.val := Nat.le_of_not_lt h

/-- Result 1: the updated query. -/
theorem final_3 (c : Dev nD) : (dats m 0 c).arrAt 3 (cfgs 0).N
    = (Cert.ReferenceIdeal.Read.val_main_v39 (F := Ideal) (m ((c : Thread nD τ).loc main_arg0)) (m ((c : Thread nD τ).loc main_arg1)) : FVec Ideal S8x1024x1024 .f32) := by
  refine (dats m 0 c).arrAt_eq_of_covers 3 _ (by decide +kernel) fun t hf y => ?_
  have h8 : 8 ≤ t.val := flush_late t fun h => Bool.noConfusion ((noflush_3 t h).symm.trans hf)
  blk_simp
  rw [after0_3]
  idx_vars y
  obtain rfl : y0 = 0 := Subsingleton.elim _ _
  have ht : t.val < 16 := lt_of_lt_of_eq t.isLt N_0
  have hi := idxO t h8
  refine (uqB_at (qm m c) (km m c) (blkOf t) (zAt m c (t.val % 8)) (X0 m c t.val) (X0_at m c t.val ht (blkOf t) rfl) (nAt m c (t.val % 8)) (nAt_at m c (blkOf t))
    (zAt_at m c (blkOf t)) (X2 m c t.val) (X2_at m c t.val) y1 y2).trans ?_
  refine (Cert.ReferenceIdeal.Hand.v39_at _ _ (blkOf t) y1 y2).symm.trans (congrArg _ ?_)
  blk_ext [hi, blkOf]

/-- Result 4: the softmax over the memory. -/
theorem final_4 (c : Dev nD) : (dats m 0 c).arrAt 4 (cfgs 0).N
    = (Cert.ReferenceIdeal.Read.val_main_v33 (F := Ideal) (m ((c : Thread nD τ).loc main_arg0)) (m ((c : Thread nD τ).loc main_arg1)) : FVec Ideal S8192x512 .f32) := by
  refine (dats m 0 c).arrAt_eq_of_covers 4 _ (by decide +kernel) fun t hf y => ?_
  have h8 : 8 ≤ t.val := flush_late t fun h => Bool.noConfusion ((noflush_4 t h).symm.trans hf)
  blk_simp
  rw [after0_4]
  idx_vars y
  have hi := idxO t h8
  refine (pay29_at (qm m c) (km m c) (blkOf t) (zAt m c (t.val % 8)) (zAt_at m c (blkOf t)) y0 y1).trans ?_
  refine (Cert.ReferenceIdeal.Hand.v33_at _ _ (pix (blkOf t) y0) y1).symm.trans (congrArg _ ?_)
  blk_ext [hi, blkOf, pix]

/-- Result 3: the softmax over the pixels. -/
theorem final_5 (c : Dev nD) : (dats m 0 c).arrAt 5 (cfgs 0).N
    = (Cert.ReferenceIdeal.Read.val_main_v22 (F := Ideal) (m ((c : Thread nD τ).loc main_arg0)) (m ((c : Thread nD τ).loc main_arg1)) : FVec Ideal S8192x512 .f32) := by
  refine (dats m 0 c).arrAt_eq_of_covers 5 _ (by decide +kernel) fun t hf y => ?_
  have h8 : 8 ≤ t.val := flush_late t fun h => Bool.noConfusion ((noflush_5 t h).symm.trans hf)
  blk_simp
  rw [after0_5]
  idx_vars y
  have hi := idxO t h8
  refine (ssqB_at (qm m c) (km m c) (blkOf t) (zAt m c (t.val % 8)) (zAt_at m c (blkOf t)) (cmAt m c 7) (csAt m c 7) (cm_at m c) (cs_at m c) y0 y1).trans ?_
  refine (Cert.ReferenceIdeal.Hand.v22_at _ _ (pix (blkOf t) y0) y1).symm.trans (congrArg _ ?_)
  blk_ext [hi, blkOf, pix]

end Cert.KernelIdeal.Hand
end
-- ==== Proof.Best.lean ====
module

public import proofs.«01_k».proof.Proof.Spec

@[expose] public section

noncomputable section

/-! The mathematics of a best entry that is reached once: what single out a best slot gives for the softmax, for the
weights of the memory update and for the distances. -/

namespace Cert.Best

open Idealize.ShloMosaic

/-- The bit pattern of minus infinity. -/
theorem negInf : Ideal.ofBits .f32 4286578688#32 = ⊥ := by simp [Ideal.ofBits, Ideal.ieee]

/-- `b` is the one best entry of `f`. -/
def Peak {ι : Type*} (f : ι → EReal) (b : ι) : Prop := ∀ a, a ≠ b → f a < f b

variable {ι : Type*} [Fintype ι]

/-- A running maximum from minus infinity is the value at an entry that no other exceeds. -/
theorem fold_of_le (f : ι → EReal) (b : ι) (h : ∀ a, f a ≤ f b) : Finset.univ.fold max (Ideal.ofBits .f32 4286578688#32) f = f b := by
  rw [negInf]
  exact le_antisymm ((Finset.fold_max_le _).mpr ⟨bot_le, fun a _ => h a⟩) ((Finset.le_fold_max _).mpr (Or.inr ⟨b, Finset.mem_univ b, le_rfl⟩))

/-- Some entry attains the maximum. -/
theorem exists_max [Nonempty ι] (f : ι → EReal) : ∃ b, ∀ a, f a ≤ f b := by
  obtain ⟨b, _, hb⟩ := Finset.exists_max_image Finset.univ f Finset.univ_nonempty
  exact ⟨b, fun a => hb a (Finset.mem_univ a)⟩

/-- The one best entry is at least every entry. -/
theorem Peak.le {f : ι → EReal} {b : ι} (h : Peak f b) (a : ι) : f a ≤ f b := by
  by_cases e : a = b
  · rw [e]
  · exact (h a e).le

/-- The maximum is the value of the one best entry. -/
theorem Peak.fold {f : ι → EReal} {b : ι} (h : Peak f b) : Finset.univ.fold max (Ideal.ofBits .f32 4286578688#32) f = f b := fold_of_le f b h.le

/-- Only the one best entry equals the maximum. -/
theorem Peak.iff {f : ι → EReal} {b : ι} (h : Peak f b) (a : ι) : f a = f b ↔ a = b :=
  ⟨fun e => by_contra fun n => (h a n).ne e, fun e => by rw [e]⟩

/-- When the entries equal to the maximum are counted and the count is one, there is one best entry. -/
theorem peak_of_hits [Nonempty ι] (f : ι → EReal)
    (h : (∑ a, if f a = Finset.univ.fold max (Ideal.ofBits .f32 4286578688#32) f then (1 : EReal) else 0) = 1) : ∃ b, Peak f b := by
  classical
  obtain ⟨b, hb⟩ := exists_max f
  refine ⟨b, fun a hab => lt_of_le_of_ne (hb a) fun e => ?_⟩
  rw [fold_of_le f b hb] at h
  have h2 : (∑ i ∈ ({a, b} : Finset ι), if f i = f b then (1 : EReal) else 0) ≤ 1 := by
    refine le_trans ?_ h.le
    exact Finset.sum_le_sum_of_subset_of_nonneg (Finset.subset_univ _) fun i _ _ => by split <;> simp
  rw [Finset.sum_pair hab, if_pos e, if_pos rfl] at h2
  have h3 : (((1 : ℝ) + 1 : ℝ) : EReal) ≤ ((1 : ℝ) : EReal) := by rw [EReal.coe_add]; exact h2
  rw [EReal.coe_le_coe_iff] at h3
  norm_num at h3

/-- A sum of reals is the real sum. -/
theorem sum_coe {κ : Type*} (s : Finset κ) (r : κ → ℝ) : (∑ i ∈ s, (r i : EReal)) = ((∑ i ∈ s, r i : ℝ) : EReal) := by
  classical
  induction s using Finset.induction_on with
  | empty => simp
  | insert a s ha ih => rw [Finset.sum_insert ha, Finset.sum_insert ha, ih, EReal.coe_add]

/-- A sum of nonnegative entries with an infinite one is infinite. -/
theorem sum_top (f : ι → EReal) (h0 : ∀ i, 0 ≤ f i) (i : ι) (h : f i = ⊤) : (∑ i, f i) = ⊤ :=
  top_le_iff.mp (h ▸ Finset.single_le_sum (fun i _ => h0 i) (Finset.mem_univ i))

/-- A division of reals with a positive divisor. -/
theorem div_pos_coe (x y : ℝ) (h : 0 < y) : Ideal.div (x : EReal) (y : EReal) = ((x / y : ℝ) : EReal) := by
  rw [Ideal.div_coe h.ne', ← EReal.coe_mul, mul_one_div]

/-- The softmax of reals is the real softmax, with a positive sum. -/
theorem soft_coe [Nonempty ι] (r : ι → ℝ) (M : ℝ) (a : ι) :
    Ideal.div (Ideal.exp ((r a : EReal) - (M : EReal))) (∑ j, Ideal.exp ((r j : EReal) - (M : EReal)))
      = ((Real.exp (r a - M) / (∑ j, Real.exp (r j - M)) : ℝ) : EReal) ∧ 0 < ∑ j, Real.exp (r j - M) := by
  have hp : 0 < ∑ j, Real.exp (r j - M) := Finset.sum_pos (fun j _ => Real.exp_pos _) Finset.univ_nonempty
  have e : ∀ j, Ideal.exp ((r j : EReal) - (M : EReal)) = ((Real.exp (r j - M) : ℝ) : EReal) := fun j => by rw [← EReal.coe_sub, Ideal.exp_coe]
  exact ⟨by rw [e a, Finset.sum_congr rfl fun j _ => e j, sum_coe, div_pos_coe _ _ hp], hp⟩

/-- The softmax keeps the order of real entries. -/
theorem soft_lt [Nonempty ι] (f : ι → EReal) (hf : ∃ r : ι → ℝ, ∀ a, f a = r a) {a b : ι} (h : f a < f b) :
    Ideal.div (Ideal.exp (f a - Finset.univ.fold max (Ideal.ofBits .f32 4286578688#32) f)) (∑ j, Ideal.exp (f j - Finset.univ.fold max (Ideal.ofBits .f32 4286578688#32) f))
      < Ideal.div (Ideal.exp (f b - Finset.univ.fold max (Ideal.ofBits .f32 4286578688#32) f)) (∑ j, Ideal.exp (f j - Finset.univ.fold max (Ideal.ofBits .f32 4286578688#32) f)) := by
  obtain ⟨r, hr⟩ := hf
  obtain rfl : f = fun a => (r a : EReal) := funext hr
  obtain ⟨c, hc⟩ := exists_max fun a => (r a : EReal)
  rw [fold_of_le _ c hc, (soft_coe r (r c) a).1, (soft_coe r (r c) b).1, EReal.coe_lt_coe_iff]
  exact (div_lt_div_iff_of_pos_right (soft_coe r (r c) a).2).mpr (Real.exp_lt_exp.mpr (sub_lt_sub_right (EReal.coe_lt_coe_iff.mp h) _))

/-- A softmax of reals is never minus infinity. -/
theorem soft_bot [Nonempty ι] (f : ι → EReal) (hf : ∃ r : ι → ℝ, ∀ a, f a = r a) (a : ι) :
    ⊥ < Ideal.div (Ideal.exp (f a - Finset.univ.fold max (Ideal.ofBits .f32 4286578688#32) f)) (∑ j, Ideal.exp (f j - Finset.univ.fold max (Ideal.ofBits .f32 4286578688#32) f)) := by
  obtain ⟨r, hr⟩ := hf
  obtain rfl : f = fun a => (r a : EReal) := funext hr
  obtain ⟨c, hc⟩ := exists_max fun a => (r a : EReal)
  rw [fold_of_le _ c hc, (soft_coe r (r c) a).1]
  exact EReal.bot_lt_coe _

/-- A softmax of reals divided by its largest value is the exponential alone. -/
theorem soft_ratio [Nonempty ι] (f : ι → EReal) (hf : ∃ r : ι → ℝ, ∀ a, f a = r a) (g : ι → EReal)
    (hg : ∀ a, g a = Ideal.div (Ideal.exp (f a - Finset.univ.fold max (Ideal.ofBits .f32 4286578688#32) f)) (∑ j, Ideal.exp (f j - Finset.univ.fold max (Ideal.ofBits .f32 4286578688#32) f)))
    (a : ι) :
    Ideal.div (g a) (Finset.univ.fold max (Ideal.ofBits .f32 4286578688#32) g) = Ideal.exp (f a - Finset.univ.fold max (Ideal.ofBits .f32 4286578688#32) f) := by
  obtain ⟨r, hr⟩ := hf
  obtain rfl : f = fun a => (r a : EReal) := funext hr
  obtain ⟨c, hc⟩ := exists_max fun a => (r a : EReal)
  rw [fold_of_le _ c hc] at hg ⊢
  have hg' : ∀ a, g a = ((Real.exp (r a - r c) / (∑ j, Real.exp (r j - r c)) : ℝ) : EReal) := fun a => (hg a).trans (soft_coe r (r c) a).1
  have hp := (soft_coe r (r c) c).2
  have hm : ∀ a, g a ≤ g c := fun a => by
    rw [hg', hg', EReal.coe_le_coe_iff]
    exact (div_le_div_iff_of_pos_right hp).mpr (Real.exp_le_exp.mpr (sub_le_sub_right (EReal.coe_le_coe_iff.mp (hc a)) _))
  rw [fold_of_le g c hm, hg', hg', sub_self, Real.exp_zero, div_pos_coe _ _ (by positivity), ← EReal.coe_sub, Ideal.exp_coe, EReal.coe_eq_coe_iff]
  field_simp

end Cert.Best
end
-- ==== Proof.Dist.lean ====
module

public import proofs.«01_k».proof.Proof.Best

@[expose] public section

noncomputable section

/-! The same mathematics at the kernel's own scores: the best slot of every pixel, the weights of the memory update
and the squared distance of a normalised pixel to a slot. -/

namespace Cert.Best

open Idealize.ShloMosaic

variable (x : Fin 8192 → Fin 512 → EReal) (k : Fin 512 → Fin 512 → EReal)

/-- What the first precondition says: real keys and one best slot for every pixel. -/
structure Lone : Prop where
  fin : ∀ a d, ∃ r : ℝ, k a d = r
  peak : ∀ n, ∃ b, Peak (Spec.score x k n) b

/-- What the second precondition says: the same, and norms above the clamp. -/
structure Single : Prop extends Lone x k where
  norm : ∀ n, Ideal.ofBits .f32 730643660#32 ≤ Ideal.sqrt (∑ d, x n d * x n d)

/-- The scores of a pixel without those that equal the largest. -/
def rest (n : Fin 8192) (a : Fin 512) : EReal := if Spec.score x k n a = Spec.pmax x k n then ⊥ else Spec.score x k n a

/-- The weight of a pixel in the update of a slot. -/
def wt (n : Fin 8192) (a : Fin 512) : EReal := Ideal.exp (Spec.score x k n a - Spec.cmax x k a)

/-- The squared distance of a normalised pixel to a slot. -/
def dist (n : Fin 8192) (a : Fin 512) : EReal := ∑ d, (Spec.qn x n d - k a d) * (Spec.qn x n d - k a d)

/-- The sum of the weighted pixels whose best slot is `a`. -/
def acc (b : Fin 8192 → Fin 512) (a d : Fin 512) : EReal := ∑ n, if b n = a then wt x k n a * Spec.qn x n d else 0

/-- The updated memory: the weighted sum and the key, normalised. -/
def um (b : Fin 8192 → Fin 512) (a d : Fin 512) : EReal :=
  Ideal.div (acc x k b a d + k a d) (max (Ideal.sqrt (∑ e, (acc x k b a e + k a e) * (acc x k b a e + k a e))) (Ideal.ofBits .f32 730643660#32))

/-- The updated memory, from entries that are the weighted sum and the key. -/
theorem um_of (b : Fin 8192 → Fin 512) (a d : Fin 512) (f : Fin 512 → EReal) (hf : ∀ e, f e = acc x k b a e + k a e) :
    Ideal.div (f d) (max (Ideal.sqrt (∑ e, f e * f e)) (Ideal.ofBits .f32 730643660#32)) = um x k b a d := by
  obtain rfl : f = fun e => acc x k b a e + k a e := funext hf
  rfl

/-- The squared norm of a slot. -/
def kn2 (a : Fin 512) : EReal := ∑ d, k a d * k a d

/-- A square is never negative. -/
theorem sq_nonneg' (y : EReal) : 0 ≤ y * y := by
  rcases le_total 0 y with h | h
  · exact mul_nonneg h h
  · have := mul_nonneg (EReal.neg_nonneg.mpr h) (EReal.neg_nonneg.mpr h)
    rwa [neg_mul_neg] at this

/-- Either the norm is infinite and the normalised pixel is zero, or the pixel is real. -/
theorem pixel_cases (n : Fin 8192) : (Spec.den x n = ⊤ ∧ ∀ d, Spec.qn x n d = 0) ∨ ∃ r : Fin 512 → ℝ, ∀ d, x n d = r d := by
  by_cases h : ∀ d, ∃ r : ℝ, x n d = r
  · exact Or.inr ⟨fun d => (h d).choose, fun d => (h d).choose_spec⟩
  · left
    push Not at h
    obtain ⟨d, hd⟩ := h
    have hs : x n d * x n d = ⊤ := by
      induction hx : x n d with
      | bot => simp
      | top => simp
      | coe r => exact absurd hx (hd r)
    have ht : Spec.den x n = ⊤ := by
      rw [Spec.den, sum_top (fun d => x n d * x n d) (fun d => sq_nonneg' _) d hs]
      simp
    exact ⟨ht, fun e => by rw [Spec.qn, ht, Ideal.div, if_neg (by simp)]; simp⟩

/-- The clamped norm of a real pixel is a positive real. -/
theorem den_real (n : Fin 8192) (r : Fin 512 → ℝ) (h : ∀ d, x n d = r d) : ∃ s : ℝ, 0 < s ∧ Spec.den x n = s := by
  have hp : 0 < Spec.den x n := Online.clamp_pos _
  have ht : Spec.den x n ≠ ⊤ := by
    rw [Spec.den, Finset.sum_congr rfl fun d _ => by rw [h d, ← EReal.coe_mul], sum_coe, Ideal.sqrt_coe, if_neg (not_lt.mpr (Finset.sum_nonneg fun d _ => mul_self_nonneg _))]
    refine (max_lt (EReal.coe_lt_top _) ?_).ne
    simp only [Ideal.ofBits, Ideal.ieee]
    rw [if_neg (by decide), if_neg (by decide), if_neg (by decide)]
    exact EReal.coe_lt_top _
  lift Spec.den x n to ℝ using ⟨ht, (bot_lt_iff_ne_bot.mp (lt_trans EReal.bot_lt_zero hp))⟩ with s hs
  exact ⟨s, by exact_mod_cast hp, rfl⟩

/-- The normalised query is real. -/
theorem qn_real : ∃ r : Fin 8192 → Fin 512 → ℝ, ∀ n d, Spec.qn x n d = r n d := by
  have h : ∀ n d, ∃ r : ℝ, Spec.qn x n d = r := fun n d => by
    rcases pixel_cases x n with ⟨_, h⟩ | ⟨r, h⟩
    · exact ⟨0, by rw [h d]; rfl⟩
    · obtain ⟨s, hs, e⟩ := den_real x n r h
      exact ⟨r d / s, by rw [Spec.qn, e, h d, div_pos_coe _ _ hs]⟩
  exact ⟨fun n d => (h n d).choose, fun n d => (h n d).choose_spec⟩

variable {x k}

/-- The keys are real. -/
theorem Lone.key (H : Lone x k) : ∃ r : Fin 512 → Fin 512 → ℝ, ∀ a d, k a d = r a d :=
  ⟨fun a d => (H.fin a d).choose, fun a d => (H.fin a d).choose_spec⟩

/-- The scores are real. -/
theorem Lone.score (H : Lone x k) : ∃ r : Fin 8192 → Fin 512 → ℝ, ∀ n a, Spec.score x k n a = r n a := by
  obtain ⟨q, hq⟩ := qn_real x
  obtain ⟨r, hr⟩ := H.key
  exact ⟨fun n a => ∑ d, q n d * r a d, fun n a => by
    rw [Spec.score, Finset.sum_congr rfl fun d _ => by rw [hq n d, hr a d, ← EReal.coe_mul], sum_coe]⟩

/-- The one best slot of the scores is the one best slot of the softmax. -/
theorem Lone.ssm (H : Lone x k) (n : Fin 8192) (b : Fin 512) (h : Peak (Spec.score x k n) b) : Peak (Spec.ssm x k n) b := fun a ha => by
  obtain ⟨r, hr⟩ := H.score
  exact soft_lt (Spec.score x k n) ⟨r n, hr n⟩ (h a ha)

/-- With one best slot, the rest masks that slot alone. -/
theorem rest_eq (n : Fin 8192) (b : Fin 512) (h : Peak (Spec.score x k n) b) (a : Fin 512) : rest x k n a = if a = b then ⊥ else Spec.score x k n a := by
  rw [rest, Spec.pmax, h.fold]
  exact if_congr (h.iff a) rfl rfl

/-- The one best slot of the rest is not the best slot. -/
theorem rest_ne (n : Fin 8192) (b b' : Fin 512) (h : Peak (Spec.score x k n) b) (h' : Peak (rest x k n) b') : b' ≠ b := by
  intro e
  obtain ⟨a, ha⟩ : ∃ a : Fin 512, a ≠ b := exists_ne b
  have := h' a (by rwa [e])
  rw [rest_eq n b h b', if_pos e] at this
  exact not_lt_bot this

/-- The one best slot of the rest is the one best slot of the softmax with the best slot masked. -/
theorem Lone.ssm_rest (H : Lone x k) (n : Fin 8192) (b b' : Fin 512) (h : Peak (Spec.score x k n) b) (h' : Peak (rest x k n) b') :
    Peak (fun a => if a = b then ⊥ else Spec.ssm x k n a) b' := fun a ha => by
  obtain ⟨r, hr⟩ := H.score
  have hb := rest_ne n b b' h h'
  show (if a = b then ⊥ else Spec.ssm x k n a) < (if b' = b then ⊥ else Spec.ssm x k n b')
  rw [if_neg hb]
  by_cases e : a = b
  · rw [if_pos e]
    exact soft_bot (Spec.score x k n) ⟨r n, hr n⟩ b'
  · rw [if_neg e]
    have := h' a ha
    rw [rest_eq n b h, rest_eq n b h, if_neg e, if_neg hb] at this
    exact soft_lt (Spec.score x k n) ⟨r n, hr n⟩ this

/-- The softmax over the pixels divided by its largest value is the weight. -/
theorem Lone.ratio (H : Lone x k) (n : Fin 8192) (a : Fin 512) :
    Ideal.div (Spec.ssq x k n a) (Finset.univ.fold max (Ideal.ofBits .f32 4286578688#32) fun j => Spec.ssq x k j a) = wt x k n a := by
  obtain ⟨r, hr⟩ := H.score
  exact soft_ratio (fun n => Spec.score x k n a) ⟨fun n => r n a, fun n => hr n a⟩ (fun j => Spec.ssq x k j a) (fun _ => rfl) n

/-- With a norm above the clamp and a best slot, a normalised pixel has squared norm one. -/
theorem Single.unit (H : Single x k) (n : Fin 8192) : (∑ d, Spec.qn x n d * Spec.qn x n d) = 1 := by
  rcases pixel_cases x n with ⟨_, h⟩ | ⟨r, h⟩
  · exfalso
    obtain ⟨b, hb⟩ := H.toLone.peak n
    obtain ⟨a, ha⟩ : ∃ a : Fin 512, a ≠ b := exists_ne b
    have hz : ∀ c, Spec.score x k n c = 0 := fun c => by
      rw [Spec.score]
      exact Finset.sum_eq_zero fun d _ => by rw [h d, zero_mul]
    have := hb a ha
    rw [hz, hz] at this
    exact lt_irrefl _ this
  · obtain ⟨s, hs, e⟩ := den_real x n r h
    have hden : (s : EReal) = ((Real.sqrt (∑ d, r d * r d) : ℝ) : EReal) := by
      rw [← e, Spec.den, max_eq_left (H.norm n), Finset.sum_congr rfl fun d _ => by rw [h d, ← EReal.coe_mul], sum_coe, Ideal.sqrt_coe,
        if_neg (not_lt.mpr (Finset.sum_nonneg fun d _ => mul_self_nonneg _))]
    have hs2 : s * s = ∑ d, r d * r d := by
      rw [EReal.coe_eq_coe_iff.mp hden]
      exact Real.mul_self_sqrt (Finset.sum_nonneg fun d _ => mul_self_nonneg _)
    rw [Finset.sum_congr rfl fun d _ => by rw [Spec.qn, e, h d, div_pos_coe _ _ hs, ← EReal.coe_mul], sum_coe]
    have : (∑ d, r d / s * (r d / s)) = 1 := by
      rw [Finset.sum_congr rfl fun d _ => div_mul_div_comm _ _ _ _, ← Finset.sum_div, hs2, div_self]
      rw [← hs2]
      positivity
    rw [this]
    rfl

/-- The squared distance, expanded. -/
theorem Single.dist_eq (H : Single x k) (n : Fin 8192) (a : Fin 512) : 1 + kn2 k a - 2 * Spec.score x k n a = dist x k n a := by
  have hu := H.unit n
  obtain ⟨q, hq⟩ := qn_real x
  obtain ⟨r, hr⟩ := H.toLone.key
  rw [Finset.sum_congr rfl fun d _ => by rw [hq n d, ← EReal.coe_mul], sum_coe] at hu
  have hu' : (∑ d, q n d * q n d) = 1 := by exact_mod_cast hu
  have e1 : kn2 k a = ((∑ d, r a d * r a d : ℝ) : EReal) := by
    rw [kn2, Finset.sum_congr rfl fun d _ => by rw [hr a d, ← EReal.coe_mul], sum_coe]
  have e2 : Spec.score x k n a = ((∑ d, q n d * r a d : ℝ) : EReal) := by
    rw [Spec.score, Finset.sum_congr rfl fun d _ => by rw [hq n d, hr a d, ← EReal.coe_mul], sum_coe]
  have e3 : dist x k n a = ((∑ d, (q n d - r a d) * (q n d - r a d) : ℝ) : EReal) := by
    rw [dist, Finset.sum_congr rfl fun d _ => by rw [hq n d, hr a d, ← EReal.coe_sub, ← EReal.coe_mul], sum_coe]
  have e4 : (∑ d, (q n d - r a d) * (q n d - r a d)) = 1 + (∑ d, r a d * r a d) - 2 * ∑ d, q n d * r a d := by
    rw [← hu', ← Finset.sum_add_distrib, Finset.mul_sum, ← Finset.sum_sub_distrib]
    exact Finset.sum_congr rfl fun d _ => by ring
  have t : (2 : EReal) = ((2 : ℝ) : EReal) := rfl
  have o : (1 : EReal) = ((1 : ℝ) : EReal) := rfl
  rw [e1, e2, e3, e4, EReal.coe_sub, EReal.coe_add, EReal.coe_mul, ← t, ← o]

/-- The slot that the selection picks carries the whole sum. -/
theorem pick (b : Fin 512) (f : Fin 512 → EReal) : (∑ a, (if a = b then (1 : EReal) else 0) * f a) = f b := by
  rw [Finset.sum_eq_single b (fun a _ h => by rw [if_neg h, zero_mul]) fun h => absurd (Finset.mem_univ b) h, if_pos rfl, one_mul]

/-- A literal that is a power of two. -/
theorem lit {b : BitVec 32} (r : ℝ) (e : ℤ) (h0 : (b.extractLsb' 23 8).toNat ≠ 2 ^ 8 - 1) (h1 : (b.extractLsb' 23 8).toNat ≠ 0) (hs : (b.extractLsb' (8 + 23) 1 == 1#1) = false)
    (hm : (b.extractLsb' 0 23).toNat = 0) (he : ((b.extractLsb' 23 8).toNat : ℤ) - 127 = e) (hr : (2 : ℝ) ^ e = r) : Ideal.ofBits .f32 b = (r : EReal) := by
  simp only [Ideal.ofBits, Ideal.ieee]
  rw [if_neg h0, if_neg h1, hm, hs, if_neg Bool.false_ne_true, EReal.coe_eq_coe_iff, ← hr, ← he]
  rw [one_mul, add_zero, Nat.cast_pow, Nat.cast_ofNat, ← zpow_natCast (2 : ℝ) 23, ← zpow_add₀ (by norm_num)]
  congr 1
  push_cast
  ring

/-- The literal two. -/
theorem two : Ideal.ofBits .f32 1073741824#32 = (2 : EReal) := lit 2 (1) (by decide) (by decide) (by decide) (by decide) (by decide) (by norm_num)

/-- The number of entries of the query. -/
theorem entries : Ideal.ofBits .f32 1249902592#32 = ((4194304 : ℝ) : EReal) := lit _ (22) (by decide) (by decide) (by decide) (by decide) (by decide) (by norm_num)

/-- One over the number of entries of the query. -/
theorem entries_inv : Ideal.ofBits .f32 0x34800000#32 = ((1 / 4194304 : ℝ) : EReal) := lit _ (-22) (by decide) (by decide) (by decide) (by decide) (by decide) (by norm_num)

/-- The number of pixels. -/
theorem pixels : Ideal.ofBits .f32 1174405120#32 = ((8192 : ℝ) : EReal) := lit _ (13) (by decide) (by decide) (by decide) (by decide) (by decide) (by norm_num)

/-- One over the number of pixels. -/
theorem pixels_inv : Ideal.ofBits .f32 0x39000000#32 = ((1 / 8192 : ℝ) : EReal) := lit _ (-13) (by decide) (by decide) (by decide) (by decide) (by decide) (by norm_num)

end Cert.Best
end
-- ==== Proof.PayG.lean ====
module

public import proofs.«01_k».proof.Proof.PayI
public import proofs.«01_k».proof.Proof.Dist

@[expose] public section

set_option maxRecDepth 16384

noncomputable section

/-! The kernel's selections, its memory update and its losses, read at an index where every pixel has one best slot. -/

namespace Cert.KernelIdeal.Hand

open Idealize.ShloMosaic Idealize.ShloMosaic.TcCoe
open Cert.KernelIdeal Cert.KernelIdeal.Gen

/-- A truth value as a number. -/
theorem flag (P : Prop) [Decidable P] : (FloatOps.sitofp (F := Ideal) .f32 (BitVec.setWidth 32 (BitVec.ofBool (decide P))) : EReal) = if P then 1 else 0 := by
  by_cases h : P
  · rw [decide_eq_true h, if_pos h]
    show (((BitVec.setWidth 32 (BitVec.ofBool true)).toInt : ℝ) : EReal) = 1
    rw [show (BitVec.setWidth 32 (BitVec.ofBool true)).toInt = 1 from by decide]
    simp
  · rw [decide_eq_false h, if_neg h]
    show (((BitVec.setWidth 32 (BitVec.ofBool false)).toInt : ℝ) : EReal) = 0
    rw [show (BitVec.setWidth 32 (BitVec.ofBool false)).toInt = 0 from by decide]
    simp

variable (z : FVec Ideal S1x512x1024 .f32)

/-- The selected slots: those whose score is the largest. -/
theorem pay35_raw (a : Fin 512) (p : Fin 1024) : k0_pay35 (F := Ideal) (k0_pay26 z) (k0_pay27 z) (ix2 a p : S512x1024.Idx)
    = if (show EReal from z (ix3 0 a p : S1x512x1024.Idx)) = (Finset.univ.fold max (Ideal.ofBits .f32 4286578688#32) fun j : Fin 512 => (show EReal from z (ix3 0 j p : S1x512x1024.Idx))) then (1 : EReal) else 0 := by
  rw [← flag]
  pointwise [k0_pay35, k0_pay34, k0_pay26, k0_pay27]

/-- The scores with the selected slots masked. -/
theorem pay36_raw (a : Fin 512) (p : Fin 1024) : k0_pay36 (F := Ideal) (k0_pay26 z) (k0_pay27 z) (ix2 a p : S512x1024.Idx)
    = if (show EReal from z (ix3 0 a p : S1x512x1024.Idx)) = (Finset.univ.fold max (Ideal.ofBits .f32 4286578688#32) fun j : Fin 512 => (show EReal from z (ix3 0 j p : S1x512x1024.Idx))) then (⊥ : EReal)
      else (show EReal from z (ix3 0 a p : S1x512x1024.Idx)) := by
  have e : Named.named (F := Ideal) (φ := .f32) κ "mask" 4048155338#32 = (⊥ : EReal) := IdealRules.named_const.ideal_named_scalar κ "mask" _ _ rfl
  rw [← e]
  pointwise [k0_pay36, k0_pay34, k0_pay26, k0_pay27]

/-- The largest score of a pixel. -/
theorem pay27_raw (p : Fin 1024) : k0_pay27 (F := Ideal) z (ix2 0 p : S1x1024.Idx)
    = Finset.univ.fold max (Ideal.ofBits .f32 4286578688#32) fun j : Fin 512 => (show EReal from z (ix3 0 j p : S1x512x1024.Idx)) := by
  pointwise [k0_pay27, k0_pay26]

/-- The largest of the masked scores. -/
theorem pay37_raw (p : Fin 1024) : k0_pay37 (F := Ideal) (k0_pay26 z) (k0_pay27 z) (ix2 0 p : S1x1024.Idx)
    = Finset.univ.fold max (Ideal.ofBits .f32 4286578688#32) fun j : Fin 512 => (show EReal from k0_pay36 (F := Ideal) (k0_pay26 z) (k0_pay27 z) (ix2 j p : S512x1024.Idx)) := by
  unfold k0_pay37
  generalize k0_pay36 (F := Ideal) (k0_pay26 z) (k0_pay27 z) = s
  pointwise []

variable (kn : FVec Ideal S512x1 .f32)

/-- The squared norm of the selected slots. -/
theorem pay38_raw (p : Fin 1024) : k0_pay38 (F := Ideal) (k0_pay26 z) (k0_pay27 z) kn (ix2 0 p : S1x1024.Idx)
    = ∑ a : Fin 512, (show EReal from k0_pay35 (F := Ideal) (k0_pay26 z) (k0_pay27 z) (ix2 a p : S512x1024.Idx)) * (show EReal from kn (ix2 a 0 : S512x1.Idx)) := by
  unfold k0_pay38
  generalize k0_pay35 (F := Ideal) (k0_pay26 z) (k0_pay27 z) = s
  pointwise []

/-- The squared norm of the slots selected second. -/
theorem pay39_raw (p : Fin 1024) : k0_pay39 (F := Ideal) (k0_pay26 z) (k0_pay27 z) kn (ix2 0 p : S1x1024.Idx)
    = ∑ a : Fin 512, (if (show EReal from k0_pay36 (F := Ideal) (k0_pay26 z) (k0_pay27 z) (ix2 a p : S512x1024.Idx)) = (show EReal from k0_pay37 (F := Ideal) (k0_pay26 z) (k0_pay27 z) (ix2 0 p : S1x1024.Idx)) then (1 : EReal) else 0)
      * (show EReal from kn (ix2 a 0 : S512x1.Idx)) := by
  simp only [← flag]
  unfold k0_pay39
  generalize k0_pay36 (F := Ideal) (k0_pay26 z) (k0_pay27 z) = s
  generalize k0_pay37 (F := Ideal) (k0_pay26 z) (k0_pay27 z) = t
  pointwise []

/-- The distance to the selected slot. -/
theorem pay41_raw (p : Fin 1024) : k0_pay41 (F := Ideal) (k0_pay26 z) (k0_pay27 z) kn (ix2 0 p : S1x1024.Idx)
    = Ideal.sqrt (1 + (show EReal from k0_pay38 (F := Ideal) (k0_pay26 z) (k0_pay27 z) kn (ix2 0 p : S1x1024.Idx)) - 2 * (show EReal from k0_pay27 (F := Ideal) z (ix2 0 p : S1x1024.Idx))) := by
  rw [← Best.two]
  unfold k0_pay41
  generalize k0_pay38 (F := Ideal) (k0_pay26 z) (k0_pay27 z) kn = s
  generalize k0_pay27 (F := Ideal) z = t
  pointwise []

/-- The squared distances of a block's pixels to their selected slots, added up. -/
theorem gblk_raw : gblk (F := Ideal) z kn
    = ∑ p : Fin 1024, (1 + (show EReal from k0_pay38 (F := Ideal) (k0_pay26 z) (k0_pay27 z) kn (ix2 0 p : S1x1024.Idx)) - 2 * (show EReal from k0_pay27 (F := Ideal) z (ix2 0 p : S1x1024.Idx)) : EReal) := by
  rw [← Best.two]
  refine Eq.trans ?_ (Fin.sum_univ_one (fun _ : Fin 1 => ∑ p : Fin 1024, (1 + (show EReal from k0_pay38 (F := Ideal) (k0_pay26 z) (k0_pay27 z) kn (ix2 0 p : S1x1024.Idx)) - Ideal.ofBits .f32 1073741824#32 * (show EReal from k0_pay27 (F := Ideal) z (ix2 0 p : S1x1024.Idx)) : EReal)))
  unfold gblk k0_pay40
  generalize k0_pay38 (F := Ideal) (k0_pay26 z) (k0_pay27 z) kn = s
  generalize k0_pay27 (F := Ideal) z = t
  pointwise []

/-- The hinges of a block's pixels, added up. -/
theorem pay4_raw (v w u : FVec Ideal S1x1024 .f32) : k0_pay4 (F := Ideal) v w u (Scalar.ofBits .f32 0x3F800000#32)
    = ∑ p : Fin 1024, max ((show EReal from u (ix2 0 p : S1x1024.Idx)) - Ideal.sqrt (1 + (show EReal from w (ix2 0 p : S1x1024.Idx)) - 2 * (show EReal from v (ix2 0 p : S1x1024.Idx))) + 1) 0 := by
  rw [← Best.two]
  refine Eq.trans ?_ (Fin.sum_univ_one (fun _ : Fin 1 => ∑ p : Fin 1024, max ((show EReal from u (ix2 0 p : S1x1024.Idx)) - Ideal.sqrt (1 + (show EReal from w (ix2 0 p : S1x1024.Idx)) - Ideal.ofBits .f32 1073741824#32 * (show EReal from v (ix2 0 p : S1x1024.Idx))) + 1) 0))
  unfold k0_pay4
  pointwise []

/-- The update of one block: every selected slot gains its pixels, weighted. -/
theorem pay5_raw (v w u : FVec Ideal S512x1024 .f32) (a d : Fin 512) : k0_pay5 (F := Ideal) v w u (ix2 a d : S512x512.Idx)
    = ∑ p : Fin 1024, ((show EReal from u (ix2 a p : S512x1024.Idx)) * ∑ j : Fin 512, (show EReal from u (ix2 j p : S512x1024.Idx)) * (show EReal from w (ix2 j p : S512x1024.Idx)))
      * (show EReal from v (ix2 d p : S512x1024.Idx)) := by
  pointwise [k0_pay5]

/-- The first block's update. -/
theorem pay6_raw (v w u : FVec Ideal S512x1024 .f32) (a d : Fin 512) : k0_pay6 (F := Ideal) v w u (ix2 a d : S512x512.Idx) = k0_pay5 (F := Ideal) v w u (ix2 a d : S512x512.Idx) := by
  unfold k0_pay6
  generalize k0_pay5 (F := Ideal) v w u = s
  pointwise []

/-- A later block's update. -/
theorem pay9_raw (v w u : FVec Ideal S512x1024 .f32) (s5 : FVec Ideal S512x512 .f32) (a d : Fin 512) : k0_pay9 (F := Ideal) v w u s5 (ix2 a d : S512x512.Idx)
    = ((show EReal from s5 (ix2 a d : S512x512.Idx)) + (show EReal from k0_pay5 (F := Ideal) v w u (ix2 a d : S512x512.Idx)) : EReal) := by
  unfold k0_pay9
  generalize k0_pay5 (F := Ideal) v w u = s
  pointwise []

/-- The updated memory, from the gathered sum and the keys. -/
theorem pay14_raw (u k : FVec Ideal S512x512 .f32) (a d : Fin 512) : k0_pay14 (F := Ideal) u k (ix2 a d : S512x512.Idx)
    = Ideal.div ((show EReal from u (ix2 a d : S512x512.Idx)) + (show EReal from k (ix2 a d : S512x512.Idx)) : EReal)
        (max (Ideal.sqrt (∑ e : Fin 512, ((show EReal from u (ix2 a e : S512x512.Idx)) + (show EReal from k (ix2 a e : S512x512.Idx))) * ((show EReal from u (ix2 a e : S512x512.Idx)) + (show EReal from k (ix2 a e : S512x512.Idx)))))
          (Ideal.ofBits .f32 730643660#32)) := by
  pointwise [k0_pay14]

/-- The squared norms of the keys. -/
theorem pay15_raw (k : FVec Ideal S512x512 .f32) (a : Fin 512) : k0_pay15 (F := Ideal) k (ix2 a 0 : S512x1.Idx)
    = ∑ d : Fin 512, (show EReal from k (ix2 a d : S512x512.Idx)) * (show EReal from k (ix2 a d : S512x512.Idx)) := by
  pointwise [k0_pay15]

/-- The weights before the selection. -/
theorem pay32_raw (s2 : FVec Ideal S512x1 .f32) (a : Fin 512) (p : Fin 1024) : k0_pay32 (F := Ideal) z s2 (ix2 a p : S512x1024.Idx)
    = Ideal.exp ((show EReal from z (ix3 0 a p : S1x512x1024.Idx)) - (show EReal from s2 (ix2 a 0 : S512x1.Idx))) := by
  pointwise [k0_pay32, k0_pay26]

/-- The normalised query of a block. -/
theorem pay25_raw (x0 : FVec Ideal S1x512x1024 .f32) (v : FVec Ideal S1x1x1024 .f32) (d : Fin 512) (p : Fin 1024) : k0_pay25 (F := Ideal) x0 v (ix2 d p : S512x1024.Idx)
    = ((show EReal from x0 (ix3 0 d p : S1x512x1024.Idx)) * (show EReal from v (ix3 0 0 p : S1x1x1024.Idx)) : EReal) := by
  pointwise [k0_pay25]

/-- A block's number as an array of one entry, kept or added to the array before, and scaled at the end. -/
theorem pay7_raw (v : Ideal .f32) : k0_pay7 (F := Ideal) v (ix2 0 0 : S1x1.Idx) = v := by pointwise [k0_pay7]
/-- A later block's squared distances. -/
theorem pay10_raw (v : Ideal .f32) (g : FVec Ideal S1x1 .f32) : k0_pay10 (F := Ideal) v g (ix2 0 0 : S1x1.Idx) = ((show EReal from g (ix2 0 0 : S1x1.Idx)) + (show EReal from v) : EReal) := by
  pointwise [k0_pay10]
/-- The scale of the squared distances. -/
theorem pay12_raw (g : FVec Ideal S1x1 .f32) : k0_pay12 (F := Ideal) g (ix2 0 0 : S1x1.Idx) = ((show EReal from g (ix2 0 0 : S1x1.Idx)) * Ideal.ofBits .f32 0x34800000#32 : EReal) := by
  pointwise [k0_pay12]
/-- The scale of the hinges. -/
theorem pay13_raw (g : FVec Ideal S1x1 .f32) : k0_pay13 (F := Ideal) g (ix2 0 0 : S1x1.Idx) = ((show EReal from g (ix2 0 0 : S1x1.Idx)) * Ideal.ofBits .f32 0x39000000#32 : EReal) := by
  pointwise [k0_pay13]
/-- The first block's hinges. -/
theorem pay8_raw (v w u : FVec Ideal S1x1024 .f32) (c : Ideal .f32) : k0_pay8 (F := Ideal) v w u c (ix2 0 0 : S1x1.Idx) = k0_pay4 (F := Ideal) v w u c := by
  unfold k0_pay8
  generalize k0_pay4 (F := Ideal) v w u c = s
  pointwise []
/-- A later block's hinges. -/
theorem pay11_raw (v w u : FVec Ideal S1x1024 .f32) (c : Ideal .f32) (g : FVec Ideal S1x1 .f32) : k0_pay11 (F := Ideal) v w u c g (ix2 0 0 : S1x1.Idx)
    = ((show EReal from g (ix2 0 0 : S1x1.Idx)) + (show EReal from k0_pay4 (F := Ideal) v w u c) : EReal) := by
  unfold k0_pay11
  generalize k0_pay4 (F := Ideal) v w u c = s
  pointwise []

end Cert.KernelIdeal.Hand
end
-- ==== Proof.Index.lean ====
module

public import proofs.«01_k».proof.Proof.RefV
public import Idealize.ShloMosaic.Lib.Routing.Ops
public import Idealize.ShloMosaic.Lib.Routing.OpsSet
public import Idealize.ShloMosaic.Lib.Routing.OpsPair

@[expose] public section

noncomputable section

/-! Reading the reference's gather by a pair of indices and its scatter of rows at an index, and the first slot that a
minimum over slot numbers finds. -/

namespace Cert.Index

open Idealize.ShloMosaic
open Idealize.ShloMosaic.Routing (shape1 shape2)

/-- A table read at a pair of indices: where the two words of row `p` are `r` and `c`, the result is the table's entry `(r, c)`. -/
theorem gather_pair {α : Type} {R C N : Nat} (d : GatherDims (shape2 R C) (shape2 N 2) (shape1 N)) (hcoll : d.collapsedSliceDims = [0, 1])
    (hob : d.operandBatchingDims = []) (hsim : d.startIndexMap = [0, 1]) (hivd : d.indexVectorDim = 1)
    (x : (shape2 R C).Idx → α) (idx : IVec (shape2 N 2) 32) (p : Fin N) (r : Fin R) (c : Fin C)
    (hr : idx (ix2 p (0 : Fin 2)) = BitVec.ofNat 32 r.val) (hc : idx (ix2 p (1 : Fin 2)) = BitVec.ofNat 32 c.val) (hR : R < 2 ^ 31) (hC : C < 2 ^ 31) :
    Host.gather d x idx (ix1 p) = x (ix2 r c) := by
  have hrl := r.isLt
  have hcl := c.isLt
  have hb : ∀ a, a ∉ d.operandBatchingDims := fun a => by rw [hob]; exact List.not_mem_nil
  have hm : ∀ q : Fin 2, q ∈ d.startIndexMap := fun q => by rw [hsim]; fin_cases q <;> simp
  have hk : ∀ q : Fin 2, q ∉ d.sKept := fun q h => ((d.mem_sKept q).1 h).1 (by rw [hcoll]; fin_cases q <;> simp)
  have hsl : ∀ q : Fin 2, d.sliceSizes q = 1 := fun q => d.slice_collapsed q (by rw [hcoll]; fin_cases q <;> simp)
  have hsi : ∀ q : Fin 2, d.siIdx (ix1 p) ⟨d.startIndexMap.idxOf q, List.idxOf_lt_length_iff.2 (hm q)⟩ = ix2 p q := fun q => by
    funext b'
    apply Fin.ext
    match b' with
    | ⟨0, _⟩ =>
      unfold GatherDims.siIdx
      rw [dif_neg (by rw [hivd]; exact Nat.zero_ne_one)]
      unfold GatherDims.siCoord
      simp only [Fin.val_cast]
      have e : ∀ X : Fin 1, (ix1 p X).val = p.val := fun X => by
        obtain rfl : X = 0 := Subsingleton.elim _ _
        rfl
      exact e _
    | ⟨1, _⟩ =>
      unfold GatherDims.siIdx
      rw [dif_pos (by rw [hivd])]
      show List.idxOf q d.startIndexMap = q.val
      rw [hsim]
      fin_cases q <;> rfl
  unfold Host.gather
  refine congrArg x (funext fun a => Fin.ext ?_)
  match a with
  | ⟨0, _⟩ =>
    show d.start (ix1 p) idx 0 + d.batchCoord (ix1 p) 0 + d.offCoord (ix1 p) 0 = r.val
    rw [d.batchCoord_eq_zero _ _ (hb 0), d.offCoord_eq_zero _ _ (hk 0)]
    unfold GatherDims.start
    rw [dif_pos (hm 0), hsi, hr, hsl, StableHlo.Predicate.toInt_ofNat_small _ (by omega)]
    show min ((r.val : Int)).toNat (R - 1) + 0 + 0 = r.val
    omega
  | ⟨1, _⟩ =>
    show d.start (ix1 p) idx 1 + d.batchCoord (ix1 p) 1 + d.offCoord (ix1 p) 1 = c.val
    rw [d.batchCoord_eq_zero _ _ (hb 1), d.offCoord_eq_zero _ _ (hk 1)]
    unfold GatherDims.start
    rw [dif_pos (hm 1), hsi, hc, hsl, StableHlo.Predicate.toInt_ofNat_small _ (by omega)]
    show min ((c.val : Int)).toNat (C - 1) + 0 + 0 = c.val
    omega

/-- Where entry `(n, e)` of a scatter of rows lands: at the row its index word names, in the same column. -/
theorem lands_row {R C N : Nat} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (n : Fin N) (e : Fin C) (b r : Fin R) (c : Fin C)
    (hb : idx (ix2 n (0 : Fin 1)) = BitVec.ofNat 32 b.val) (hR : R < 2 ^ 31) :
    d.resultIdx? (ix2 n e) idx = some (ix2 r c) ↔ b = r ∧ e = c := by
  have hbl := b.isLt
  have hm : (0 : Fin 2) ∈ d.scatterDimsToOperandDims := by rw [hsd]; exact List.mem_singleton.2 rfl
  have hm1 : (1 : Fin 2) ∉ d.scatterDimsToOperandDims := by rw [hsd]; exact (by decide : (1 : Fin 2) ∉ ([0] : List (Fin 2)))
  have hkept : d.sKept = [1] := by
    show (shape2 R C).kept d.insertedWindowDims = _
    rw [hiw]
    rfl
  have hus : d.uScatter = [0] := by
    show (shape2 N C).kept d.updateWindowDims = _
    rw [huw]
    rfl
  have hu1 : ∀ q ∈ d.updateWindowDims, q = (1 : Fin 2) := fun q h => by rw [huw] at h; exact List.mem_singleton.1 h
  have hu0 : ∀ q ∈ d.uScatter, q = (0 : Fin 2) := fun q h => by rw [hus] at h; exact List.mem_singleton.1 h
  have e0 : ∀ X : Fin 2, X = 0 → (ix2 n e X).val = n.val := fun X h => by subst h; rfl
  have e1 : ∀ X : Fin 2, X = 1 → (ix2 n e X).val = e.val := fun X h => by subst h; rfl
  have w0 : d.window (ix2 n e) 0 = 0 := by
    unfold ScatterDims.window
    rw [dif_neg (by rw [hkept]; exact (by decide : (0 : Fin 2) ∉ ([1] : List (Fin 2))))]
  have w1 : d.window (ix2 n e) 1 = e.val := by
    unfold ScatterDims.window
    rw [dif_pos (by rw [hkept]; exact (by decide : (1 : Fin 2) ∈ ([1] : List (Fin 2))))]
    exact e1 _ (hu1 _ (List.getElem_mem _))
  have hsi : d.siIdx (ix2 n e) ⟨d.scatterDimsToOperandDims.idxOf 0, List.idxOf_lt_length_iff.2 hm⟩ = ix2 n (0 : Fin 1) := by
    funext b'
    apply Fin.ext
    match b' with
    | ⟨0, _⟩ =>
      unfold ScatterDims.siIdx
      rw [dif_neg (by rw [hivd]; exact Nat.zero_ne_one)]
      unfold ScatterDims.siCoord
      simp only [Fin.val_cast]
      exact e0 _ (hu0 _ (List.getElem_mem _))
    | ⟨1, _⟩ =>
      unfold ScatterDims.siIdx
      rw [dif_pos (by rw [hivd])]
      show List.idxOf (0 : Fin 2) d.scatterDimsToOperandDims = 0
      rw [hsd]; simp
  have s0 : d.start (ix2 n e) idx 0 = (b.val : Int) := by
    unfold ScatterDims.start
    rw [dif_pos hm, hsi, hb, StableHlo.Predicate.toInt_ofNat_small _ (by omega)]
  have s1 : d.start (ix2 n e) idx 1 = 0 := by
    unfold ScatterDims.start
    rw [dif_neg hm1]
  refine (Routing.resultIdx?_ix2 d (ix2 n e) idx r c).trans ?_
  rw [s0, s1, w0, w1, Fin.ext_iff, Fin.ext_iff]
  omega

/-- A sum over the entries of a matrix is the sum over its rows and columns. -/
theorem sum_ix2 {N C : Nat} (f : (shape2 N C).Idx → EReal) : (∑ j, f j) = ∑ n : Fin N, ∑ e : Fin C, f (ix2 n e) := by
  rw [← Fintype.sum_prod_type' (fun (n : Fin N) (e : Fin C) => f (ix2 n e))]
  refine Fintype.sum_equiv ⟨fun j => (j 0, j 1), fun q => ix2 q.1 q.2, fun j => ?_, fun q => rfl⟩ _ _ fun j => ?_
  · funext a
    match a with
    | ⟨0, _⟩ => rfl
    | ⟨1, _⟩ => rfl
  · congr 1
    funext a
    match a with
    | ⟨0, _⟩ => rfl
    | ⟨1, _⟩ => rfl

/-- Scattering rows by addition: row `r` gains the rows whose index word names it. -/
theorem scatter_rows {R C N : Nat} (d : ScatterDims (shape2 R C) (shape2 N 1) (shape2 N C)) (huw : d.updateWindowDims = [1]) (hiw : d.insertedWindowDims = [0])
    (hsd : d.scatterDimsToOperandDims = [0]) (hivd : d.indexVectorDim = 1) (x : FVec Ideal (shape2 R C) .f32) (idx : IVec (shape2 N 1) 32) (upd : FVec Ideal (shape2 N C) .f32)
    (b : Fin N → Fin R) (hb : ∀ n, idx (ix2 n (0 : Fin 1)) = BitVec.ofNat 32 (b n).val) (hR : R < 2 ^ 31) (r : Fin R) (c : Fin C) :
    Host.scatterAdd (F := Ideal) d x idx upd (ix2 r c) = (x (ix2 r c) + ∑ n, if b n = r then (upd (ix2 n c) : EReal) else 0 : EReal) := by
  show (x (ix2 r c) + ∑ j ∈ Finset.univ.filter (fun j => d.resultIdx? j idx = some (ix2 r c)), upd j : EReal) = _
  congr 1
  rw [Finset.sum_filter, sum_ix2]
  refine Finset.sum_congr rfl fun n _ => ?_
  rw [Finset.sum_eq_single c (fun e _ he => if_neg fun h => he ((lands_row d huw hiw hsd hivd idx n e (b n) r c (hb n) hR).1 h).2) fun h => absurd (Finset.mem_univ c) h]
  exact if_congr ((lands_row d huw hiw hsd hivd idx n c (b n) r c (hb n) hR).trans (and_iff_left rfl)) rfl rfl

/-- A minimum over words that are all the same word is that word or the starting one. -/
theorem fold_same (T : Finset (Fin 512)) (s : Fin 512 → BitVec 32) (h : ∀ a ∈ T, s a = 512#32) :
    T.fold IntOp.minsi 2147483647#32 s = 2147483647#32 ∨ T.fold IntOp.minsi 2147483647#32 s = 512#32 := by
  classical
  induction T using Finset.induction_on with
  | empty => exact Or.inl rfl
  | insert a T ha ih =>
    rw [Finset.fold_insert ha, h a (Finset.mem_insert_self a T)]
    rcases ih fun i hi => h i (Finset.mem_insert_of_mem hi) with e | e <;> rw [e]
    · exact Or.inr (by decide)
    · exact Or.inr (by decide)

/-- A slot number is below the words that stand for no slot. -/
theorem slot_min (b : Fin 512) : IntOp.minsi (BitVec.ofNat 32 b.val) 2147483647#32 = BitVec.ofNat 32 b.val
    ∧ IntOp.minsi (BitVec.ofNat 32 b.val) 512#32 = BitVec.ofNat 32 b.val := by
  revert b
  decide +kernel

/-- The smallest slot number, where one slot alone is marked, is that slot's. -/
theorem fold_slot (s : Fin 512 → BitVec 32) (b : Fin 512) (h : ∀ a, s a = if a = b then BitVec.ofNat 32 a.val else 512#32) :
    Finset.univ.fold IntOp.minsi 2147483647#32 s = BitVec.ofNat 32 b.val := by
  classical
  rw [← Finset.insert_erase (Finset.mem_univ b), Finset.fold_insert (Finset.notMem_erase b _), h b, if_pos rfl]
  rcases fold_same (Finset.univ.erase b) s (fun a ha => by rw [h a, if_neg (Finset.ne_of_mem_erase ha)]) with e | e <;> rw [e]
  · exact (slot_min b).1
  · exact (slot_min b).2

/-- A slot number is not negative, so the wrap of negative indices leaves it. -/
theorem slot_wrap (b : Fin 512) (a : BitVec 32) : Scalar.select (IntOp.cmpi .slt (BitVec.ofNat 32 b.val) 0#32) a (BitVec.ofNat 32 b.val) = BitVec.ofNat 32 b.val :=
  Routing.wrap_of_lt _ _ (by rw [BitVec.toNat_ofNat]; have := b.isLt; omega)

/-- The same for a pixel number. -/
theorem pixel_wrap (n : Fin 8192) (a : BitVec 32) : Scalar.select (IntOp.cmpi .slt (BitVec.ofNat 32 n.val) 0#32) a (BitVec.ofNat 32 n.val) = BitVec.ofNat 32 n.val :=
  Routing.wrap_of_lt _ _ (by rw [BitVec.toNat_ofNat]; have := n.isLt; omega)

/-- Two slot numbers are the same word exactly when they are the same slot. -/
theorem slot_cmp (a b : Fin 512) (x y : EReal) : Scalar.select (IntOp.cmpi .eq (BitVec.ofNat 32 a.val) (BitVec.ofNat 32 b.val)) x y = if a = b then x else y := by
  have ha := a.isLt
  have hb := b.isLt
  by_cases e : a = b
  · subst e; simp [Scalar.select, IntOp.cmpi]
  · have : ¬ (BitVec.ofNat 32 a.val = BitVec.ofNat 32 b.val) := fun h => e (Fin.ext (by
      have := congrArg BitVec.toNat h
      rw [BitVec.toNat_ofNat, BitVec.toNat_ofNat] at this
      omega))
    have t : (BitVec.ofNat 32 a.val == BitVec.ofNat 32 b.val) = false := beq_eq_false_iff_ne.mpr this
    simp [Scalar.select, IntOp.cmpi, e, t]

end Cert.Index
end
-- ==== Proof.RawA.lean ====
module

public import proofs.«01_k».proof.Proof.RefV
public import proofs.«01_k».proof.Proof.Index

@[expose] public section

set_option maxRecDepth 16384

noncomputable section

/-! The reference's selections, stage by stage: the numbers of the slots that attain a maximum, the smallest of them, and the
wrap of negative indices before each gather. -/

namespace Cert.ReferenceIdeal.Hand

open Idealize.ShloMosaic Idealize.ShloMosaic.TcCoe
open Cert.ReferenceIdeal Cert.ReferenceIdeal.Read Cert.ReferenceIdeal.Gen

variable (x0 : FVec Ideal S8x512x32x32 .f32) (x1 : FVec Ideal S512x512 .f32)

/-- The slot numbers of the slots that attain a pixel's maximum. -/
theorem v45_raw (n : Fin 8192) (a : Fin 512) : val_main_v45 (F := Ideal) x0 x1 (ix2 n a : S8192x512.Idx)
    = if (show EReal from val_main_v33 (F := Ideal) x0 x1 (ix2 n a : S8192x512.Idx)) = (Finset.univ.fold max (Ideal.ofBits .f32 4286578688#32) fun j : Fin 512 => (show EReal from val_main_v33 (F := Ideal) x0 x1 (ix2 n j : S8192x512.Idx)))
      then BitVec.ofNat 32 a.val else 512#32 := by
  have e : val_main_v40 (F := Ideal) x0 x1 (ix1 n : S8192.Idx)
      = Finset.univ.fold max (Ideal.ofBits .f32 4286578688#32) fun j : Fin 512 => (show EReal from val_main_v33 (F := Ideal) x0 x1 (ix2 n j : S8192x512.Idx)) := by
    unfold val_main_v40
    generalize val_main_v33 (F := Ideal) x0 x1 = s
    pointwise [val_main_cst_7]
  rw [← e]
  unfold val_main_v45 val_main_v44 val_main_v43 val_main_v41
  generalize val_main_v33 (F := Ideal) x0 x1 = s
  generalize val_main_v40 (F := Ideal) x0 x1 = t
  pointwise [val_main_v42, val_main_call0_v1, val_main_call0_v0, val_main_c]
  rfl

/-- The smallest of the marked slot numbers. -/
theorem v46_raw (n : Fin 8192) : val_main_v46 (F := Ideal) x0 x1 (ix1 n : S8192.Idx)
    = Finset.univ.fold IntOp.minsi 2147483647#32 fun a : Fin 512 => (show BitVec 32 from val_main_v45 (F := Ideal) x0 x1 (ix2 n a : S8192x512.Idx)) := by
  unfold val_main_v46
  generalize val_main_v45 (F := Ideal) x0 x1 = s
  pointwise [val_main_c_8]

/-- The scores without the gathering slot. -/
theorem v105_raw (n : Fin 8192) (a : Fin 512) : val_main_v105 (F := Ideal) x0 x1 (ix2 n a : S8192x512.Idx)
    = Scalar.select (IntOp.cmpi .eq (BitVec.ofNat 32 a.val) (val_main_v46 (F := Ideal) x0 x1 (ix1 n : S8192.Idx))) (Ideal.ofBits .f32 4286578688#32)
        (show EReal from val_main_v33 (F := Ideal) x0 x1 (ix2 n a : S8192x512.Idx)) := by
  rw [val_main_v105_apply, val_main_v104_apply, val_main_v103_apply, val_main_v102_apply, val_main_call1_v1_apply, val_main_call1_v0_apply, val_main_cst_25_apply,
    Ideal.ofBits_def, show idx_main_v102 (idx_main_v103 (ix2 n a : S8192x512.Idx)) = (ix1 n : S8192.Idx) from funext fun i => by match i with | ⟨0, _⟩ => rfl]
  rfl

/-- The largest entry of a row. -/
theorem row_max (s : FVec Ideal S8192x512 .f32) (n : Fin 8192) :
    Host.reduce FloatOps.maximumf s (constant (F := Ideal) S_ .f32 0xFF800000#32) reducesTo_S8192x512_S8192_d1 h_S_ (ix1 n : S8192.Idx)
      = Finset.univ.fold max (Ideal.ofBits .f32 4286578688#32) fun j : Fin 512 => (show EReal from s (ix2 n j : S8192x512.Idx)) := by
  pointwise []

/-- A choice by an equality. -/
theorem choose (u v : EReal) (p q : BitVec 32) : Scalar.select (FloatOps.cmpf (F := Ideal) (φ := .f32) .oeq u v) p q = if u = v then p else q := by
  rw [Ideal.cmpf_def]
  by_cases h : u = v
  · rw [if_pos h]; simp [Scalar.select, Ideal.cmp, h]
  · rw [if_neg h]; simp [Scalar.select, Ideal.cmp, h]

/-- The slot numbers along a row. -/
theorem slot_number (n : Fin 8192) (a : Fin 512) : val_main_v42 (F := Ideal) (ix2 n a : S8192x512.Idx) = BitVec.ofNat 32 a.val := by
  pointwise [val_main_v42]

/-- The slot numbers of the slots that attain the maximum of the rest. -/
theorem v110_raw (n : Fin 8192) (a : Fin 512) : val_main_v110 (F := Ideal) x0 x1 (ix2 n a : S8192x512.Idx)
    = if (show EReal from val_main_v105 (F := Ideal) x0 x1 (ix2 n a : S8192x512.Idx)) = (Finset.univ.fold max (Ideal.ofBits .f32 4286578688#32) fun j : Fin 512 => (show EReal from val_main_v105 (F := Ideal) x0 x1 (ix2 n j : S8192x512.Idx)))
      then BitVec.ofNat 32 a.val else 512#32 := by
  have e : val_main_v106 (F := Ideal) x0 x1 (ix1 n : S8192.Idx)
      = Finset.univ.fold max (Ideal.ofBits .f32 4286578688#32) fun j : Fin 512 => (show EReal from val_main_v105 (F := Ideal) x0 x1 (ix2 n j : S8192x512.Idx)) := by
    unfold val_main_v106 val_main_cst_26
    exact row_max (val_main_v105 (F := Ideal) x0 x1) n
  rw [val_main_v110_apply, val_main_v109_apply, val_main_v108_apply, val_main_v107_apply, slot_number, val_main_call2_v1_apply, val_main_call2_v0_apply, val_main_c_27_apply,
    show idx_main_v107 (idx_main_v108 (ix2 n a : S8192x512.Idx)) = (ix1 n : S8192.Idx) from funext fun i => by match i with | ⟨0, _⟩ => rfl, e]
  exact choose _ _ _ _

/-- The smallest of those slot numbers. -/
theorem v111_raw (n : Fin 8192) : val_main_v111 (F := Ideal) x0 x1 (ix1 n : S8192.Idx)
    = Finset.univ.fold IntOp.minsi 2147483647#32 fun a : Fin 512 => (show BitVec 32 from val_main_v110 (F := Ideal) x0 x1 (ix2 n a : S8192x512.Idx)) := by
  unfold val_main_v111
  generalize val_main_v110 (F := Ideal) x0 x1 = s
  pointwise [val_main_c_28]

/-- The gathering index, wrapped before the gather from the softmax over the pixels. -/
theorem wrap58 (b : Fin 512) (n : Fin 8192) (e : val_main_v46 (F := Ideal) x0 x1 (ix1 n : S8192.Idx) = BitVec.ofNat 32 b.val) :
    val_main_v58 (F := Ideal) x0 x1 (ix1 n : S8192.Idx) = BitVec.ofNat 32 b.val := by
  unfold val_main_v58 val_main_v57 val_main_v55
  revert e
  generalize val_main_v46 (F := Ideal) x0 x1 = s
  intro e
  pointwise [val_main_v54, val_main_v56, val_main_c_12, val_main_c_13]
  rw [e]
  exact Index.slot_wrap b _

/-- The same before the gather of the largest softmax values. -/
theorem wrap67 (b : Fin 512) (n : Fin 8192) (e : val_main_v46 (F := Ideal) x0 x1 (ix1 n : S8192.Idx) = BitVec.ofNat 32 b.val) :
    val_main_v67 (F := Ideal) x0 x1 (ix1 n : S8192.Idx) = BitVec.ofNat 32 b.val := by
  unfold val_main_v67 val_main_v66 val_main_v64
  revert e
  generalize val_main_v46 (F := Ideal) x0 x1 = s
  intro e
  pointwise [val_main_v63, val_main_v65, val_main_c_14, val_main_c_15]
  rw [e]
  exact Index.slot_wrap b _

/-- The same before the scatter. -/
theorem wrap79 (b : Fin 512) (n : Fin 8192) (e : val_main_v46 (F := Ideal) x0 x1 (ix1 n : S8192.Idx) = BitVec.ofNat 32 b.val) :
    val_main_v79 (F := Ideal) x0 x1 (ix1 n : S8192.Idx) = BitVec.ofNat 32 b.val := by
  unfold val_main_v79 val_main_v78 val_main_v76
  revert e
  generalize val_main_v46 (F := Ideal) x0 x1 = s
  intro e
  pointwise [val_main_v75, val_main_v77, val_main_c_17, val_main_c_18]
  rw [e]
  exact Index.slot_wrap b _

/-- The same before the gather of the keys. -/
theorem wrap95 (b : Fin 512) (n : Fin 8192) (e : val_main_v46 (F := Ideal) x0 x1 (ix1 n : S8192.Idx) = BitVec.ofNat 32 b.val) :
    val_main_v95 (F := Ideal) x0 x1 (ix1 n : S8192.Idx) = BitVec.ofNat 32 b.val := by
  unfold val_main_v95 val_main_v94 val_main_v92
  revert e
  generalize val_main_v46 (F := Ideal) x0 x1 = s
  intro e
  pointwise [val_main_v91, val_main_v93, val_main_c_21, val_main_c_22]
  rw [e]
  exact Index.slot_wrap b _

/-- The second gathering index, wrapped. -/
theorem wrap116 (b : Fin 512) (n : Fin 8192) (e : val_main_v111 (F := Ideal) x0 x1 (ix1 n : S8192.Idx) = BitVec.ofNat 32 b.val) :
    val_main_v116 (F := Ideal) x0 x1 (ix1 n : S8192.Idx) = BitVec.ofNat 32 b.val := by
  unfold val_main_v116 val_main_v115 val_main_v113
  revert e
  generalize val_main_v111 (F := Ideal) x0 x1 = s
  intro e
  pointwise [val_main_v112, val_main_v114, val_main_c_29, val_main_c_30]
  rw [e]
  exact Index.slot_wrap b _

/-- The pixel numbers, wrapped. -/
theorem wrap53 (n : Fin 8192) : val_main_v53 (F := Ideal) (ix1 n : S8192.Idx) = BitVec.ofNat 32 n.val := by
  unfold val_main_v53
  pointwise [val_main_v52, val_main_v50, val_main_v48, val_main_v49, val_main_v51, val_main_c_10, val_main_c_11]
  exact Index.pixel_wrap n _

end Cert.ReferenceIdeal.Hand
end
-- ==== Proof.RawB.lean ====
module

public import proofs.«01_k».proof.Proof.RefV

@[expose] public section

set_option maxRecDepth 16384

noncomputable section

/-! The reference's memory update and losses, stage by stage. -/

namespace Cert.ReferenceIdeal.Hand

open Idealize.ShloMosaic Idealize.ShloMosaic.TcCoe
open Cert.ReferenceIdeal Cert.ReferenceIdeal.Read Cert.ReferenceIdeal.Gen

variable (x0 : FVec Ideal S8x512x32x32 .f32) (x1 : FVec Ideal S512x512 .f32)

/-- The largest softmax value of a slot over the pixels. -/
theorem v47_raw (a : Fin 512) : val_main_v47 (F := Ideal) x0 x1 (ix1 a : S512.Idx)
    = Finset.univ.fold max (Ideal.ofBits .f32 4286578688#32) fun j : Fin 8192 => (show EReal from val_main_v22 (F := Ideal) x0 x1 (ix2 j a : S8192x512.Idx)) := by
  unfold val_main_v47
  generalize val_main_v22 (F := Ideal) x0 x1 = s
  pointwise [val_main_cst_9]

/-- The first word of a pixel's pair of indices. -/
theorem v61_0 (n : Fin 8192) : val_main_v61 (F := Ideal) x0 x1 (ix2 n 0 : S8192x2.Idx) = val_main_v53 (F := Ideal) (ix1 n : S8192.Idx) := by
  unfold val_main_v61 val_main_v59 val_main_v60
  generalize val_main_v58 (F := Ideal) x0 x1 = s
  generalize val_main_v53 (F := Ideal) = t
  pointwise []

/-- The second word of a pixel's pair of indices. -/
theorem v61_1 (n : Fin 8192) : val_main_v61 (F := Ideal) x0 x1 (ix2 n 1 : S8192x2.Idx) = val_main_v58 (F := Ideal) x0 x1 (ix1 n : S8192.Idx) := by
  unfold val_main_v61 val_main_v59 val_main_v60
  generalize val_main_v58 (F := Ideal) x0 x1 = s
  generalize val_main_v53 (F := Ideal) = t
  pointwise []

/-- Gathering indices as a column. -/
theorem v68_raw (n : Fin 8192) : val_main_v68 (F := Ideal) x0 x1 (ix2 n 0 : S8192x1.Idx) = val_main_v67 (F := Ideal) x0 x1 (ix1 n : S8192.Idx) := by
  unfold val_main_v68
  generalize val_main_v67 (F := Ideal) x0 x1 = s
  pointwise []

/-- The same for the scatter. -/
theorem v80_raw (n : Fin 8192) : val_main_v80 (F := Ideal) x0 x1 (ix2 n 0 : S8192x1.Idx) = val_main_v79 (F := Ideal) x0 x1 (ix1 n : S8192.Idx) := by
  unfold val_main_v80
  generalize val_main_v79 (F := Ideal) x0 x1 = s
  pointwise []

/-- The same for the keys. -/
theorem v96_raw (n : Fin 8192) : val_main_v96 (F := Ideal) x0 x1 (ix2 n 0 : S8192x1.Idx) = val_main_v95 (F := Ideal) x0 x1 (ix1 n : S8192.Idx) := by
  unfold val_main_v96
  generalize val_main_v95 (F := Ideal) x0 x1 = s
  pointwise []

/-- The same for the second keys. -/
theorem v117_raw (n : Fin 8192) : val_main_v117 (F := Ideal) x0 x1 (ix2 n 0 : S8192x1.Idx) = val_main_v116 (F := Ideal) x0 x1 (ix1 n : S8192.Idx) := by
  unfold val_main_v117
  generalize val_main_v116 (F := Ideal) x0 x1 = s
  pointwise []

/-- The weight of a pixel. -/
theorem v70_raw (n : Fin 8192) : val_main_v70 (F := Ideal) x0 x1 (ix1 n : S8192.Idx)
    = Ideal.div (show EReal from val_main_v62 (F := Ideal) x0 x1 (ix1 n : S8192.Idx)) (show EReal from val_main_v69 (F := Ideal) x0 x1 (ix1 n : S8192.Idx)) := by
  rw [val_main_v70_apply]
  exact Ideal.hostDivf_def _ _

/-- The weighted normalised query. -/
theorem v74_raw (n : Fin 8192) (d : Fin 512) : val_main_v74 (F := Ideal) x0 x1 (ix2 n d : S8192x512.Idx)
    = ((show EReal from val_main_v70 (F := Ideal) x0 x1 (ix1 n : S8192.Idx)) * (show EReal from val_main_v34 (F := Ideal) x0 (ix2 n d : S8192x512.Idx)) : EReal) := by
  rw [val_main_v74_apply, val_main_v73_apply, val_main_v72_apply,
    show idx_main_v72 (idx_main_v73 (ix2 n d : S8192x512.Idx)) = (ix1 n : S8192.Idx) from funext fun a => by match a with | ⟨0, _⟩ => rfl]
  exact Ideal.mulf_def _ _

/-- The memory the scatter starts from. -/
theorem v71_raw (a d : Fin 512) : val_main_v71 (F := Ideal) (ix2 a d : S512x512.Idx) = (0 : EReal) := by
  unfold val_main_v71
  pointwise [val_main_cst_16]

/-- The gathered sum and the key. -/
theorem v82_raw (a d : Fin 512) : val_main_v82 (F := Ideal) x0 x1 (ix2 a d : S512x512.Idx)
    = ((show EReal from val_main_v81 (F := Ideal) x0 x1 (ix2 a d : S512x512.Idx)) + (show EReal from x1 (ix2 a d : S512x512.Idx)) : EReal) := by
  rw [val_main_v82_apply]
  exact Ideal.addf_def _ _

/-- Its squared norm. -/
theorem v84_raw (a : Fin 512) : val_main_v84 (F := Ideal) x0 x1 (ix1 a : S512.Idx)
    = ∑ e : Fin 512, (show EReal from val_main_v82 (F := Ideal) x0 x1 (ix2 a e : S512x512.Idx)) * (show EReal from val_main_v82 (F := Ideal) x0 x1 (ix2 a e : S512x512.Idx)) := by
  have hz : val_main_cst_19 (F := Ideal) (Shape.Idx.first h_S_) = (0 : EReal) := by
    rw [val_main_cst_19_apply]
    exact Ideal.ofBits_zero_f32
  refine (val_main_v84_apply x0 x1 (ix1 a)).trans ?_
  rw [hz, zero_add]
  refine Finset.sum_congr rfl fun e _ => ?_
  rw [show idx_main_v84 (ix1 a : S512.Idx) e = (ix2 a e : S512x512.Idx) from funext fun i => by match i with
    | ⟨0, _⟩ => rfl
    | ⟨1, _⟩ => rfl, val_main_v83_apply]
  exact Ideal.mulf_def _ _

/-- The normalised sum. -/
theorem v90_raw (a d : Fin 512) : val_main_v90 (F := Ideal) x0 x1 (ix2 a d : S512x512.Idx)
    = Ideal.div (show EReal from val_main_v82 (F := Ideal) x0 x1 (ix2 a d : S512x512.Idx)) (max (Ideal.sqrt (show EReal from val_main_v84 (F := Ideal) x0 x1 (ix1 a : S512.Idx))) (Ideal.ofBits .f32 730643660#32)) := by
  unfold val_main_v90 val_main_v89 val_main_v88 val_main_v86 val_main_v85
  generalize val_main_v82 (F := Ideal) x0 x1 = s
  generalize val_main_v84 (F := Ideal) x0 x1 = t
  pointwise [val_main_v87, val_main_cst_20]

/-- The mean of the squared differences from the gathered keys. -/
theorem v134_raw : val_main_v134 (F := Ideal) x0 x1 (ix2 0 0 : S1x1.Idx)
    = Ideal.div (∑ n : Fin 8192, ∑ d : Fin 512, ((show EReal from val_main_v34 (F := Ideal) x0 (ix2 n d : S8192x512.Idx)) - (show EReal from val_main_v97 (F := Ideal) x0 x1 (ix2 n d : S8192x512.Idx)))
        * ((show EReal from val_main_v34 (F := Ideal) x0 (ix2 n d : S8192x512.Idx)) - (show EReal from val_main_v97 (F := Ideal) x0 x1 (ix2 n d : S8192x512.Idx))))
      (Ideal.ofBits .f32 1249902592#32) := by
  unfold val_main_v134 val_main_v101 val_main_v100 val_main_v99 val_main_v98
  generalize val_main_v34 (F := Ideal) x0 = s
  generalize val_main_v97 (F := Ideal) x0 x1 = t
  pointwise [val_main_cst_23, val_main_cst_24]

/-- The squared distance of a pixel to its gathered key. -/
theorem v121_raw (n : Fin 8192) : val_main_v121 (F := Ideal) x0 x1 (ix1 n : S8192.Idx)
    = ∑ d : Fin 512, ((show EReal from val_main_v34 (F := Ideal) x0 (ix2 n d : S8192x512.Idx)) - (show EReal from val_main_v97 (F := Ideal) x0 x1 (ix2 n d : S8192x512.Idx)))
        * ((show EReal from val_main_v34 (F := Ideal) x0 (ix2 n d : S8192x512.Idx)) - (show EReal from val_main_v97 (F := Ideal) x0 x1 (ix2 n d : S8192x512.Idx))) := by
  unfold val_main_v121 val_main_v120 val_main_v119
  generalize val_main_v34 (F := Ideal) x0 = s
  generalize val_main_v97 (F := Ideal) x0 x1 = t
  pointwise [val_main_cst_31]

/-- The squared distance of a pixel to its second key. -/
theorem v125_raw (n : Fin 8192) : val_main_v125 (F := Ideal) x0 x1 (ix1 n : S8192.Idx)
    = ∑ d : Fin 512, ((show EReal from val_main_v34 (F := Ideal) x0 (ix2 n d : S8192x512.Idx)) - (show EReal from val_main_v118 (F := Ideal) x0 x1 (ix2 n d : S8192x512.Idx)))
        * ((show EReal from val_main_v34 (F := Ideal) x0 (ix2 n d : S8192x512.Idx)) - (show EReal from val_main_v118 (F := Ideal) x0 x1 (ix2 n d : S8192x512.Idx))) := by
  unfold val_main_v125 val_main_v124 val_main_v123
  generalize val_main_v34 (F := Ideal) x0 = s
  generalize val_main_v118 (F := Ideal) x0 x1 = t
  pointwise [val_main_cst_32]

/-- The hinge of a pixel. -/
theorem v131_raw (n : Fin 8192) : val_main_v131 (F := Ideal) x0 x1 (ix1 n : S8192.Idx)
    = max (Ideal.sqrt (show EReal from val_main_v121 (F := Ideal) x0 x1 (ix1 n : S8192.Idx)) - Ideal.sqrt (show EReal from val_main_v125 (F := Ideal) x0 x1 (ix1 n : S8192.Idx)) + 1) 0 := by
  unfold val_main_v131 val_main_v129 val_main_v127 val_main_v126 val_main_v122
  generalize val_main_v121 (F := Ideal) x0 x1 = s
  generalize val_main_v125 (F := Ideal) x0 x1 = t
  pointwise [val_main_v128, val_main_v130, val_main_cst_33, val_main_cst_34]

/-- The mean of the hinges. -/
theorem v135_raw : val_main_v135 (F := Ideal) x0 x1 (ix2 0 0 : S1x1.Idx)
    = Ideal.div (∑ n : Fin 8192, (show EReal from val_main_v131 (F := Ideal) x0 x1 (ix1 n : S8192.Idx))) (Ideal.ofBits .f32 1174405120#32) := by
  unfold val_main_v135 val_main_v133 val_main_v132
  generalize val_main_v131 (F := Ideal) x0 x1 = s
  pointwise [val_main_cst_35, val_main_cst_36]

end Cert.ReferenceIdeal.Hand
end
-- ==== Proof.RefG.lean ====
module

public import proofs.«01_k».proof.Proof.RefV
public import proofs.«01_k».proof.Proof.Dist
public import proofs.«01_k».proof.Proof.RawA
public import proofs.«01_k».proof.Proof.RawB

@[expose] public section

set_option maxRecDepth 16384

noncomputable section

/-! The reference's gathering indices, its memory update and its two losses, read at an index where every pixel has one best slot. -/

namespace Cert.ReferenceIdeal.Hand

open Idealize.ShloMosaic Idealize.ShloMosaic.TcCoe
open Cert.ReferenceIdeal Cert.ReferenceIdeal.Read Cert.ReferenceIdeal.Gen

variable (x0 : FVec Ideal S8x512x32x32 .f32) (x1 : FVec Ideal S512x512 .f32)

/-- The smallest number of a slot that attains the maximum is the number of the one best slot. -/
theorem slot_of (g f : Fin 512 → EReal) (s : Fin 512 → BitVec 32) (b : Fin 512) (hg : ∀ a, g a = f a) (hp : Best.Peak f b)
    (hs : ∀ a, s a = if g a = Finset.univ.fold max (Ideal.ofBits .f32 4286578688#32) g then BitVec.ofNat 32 a.val else 512#32) :
    Finset.univ.fold IntOp.minsi 2147483647#32 s = BitVec.ofNat 32 b.val := by
  obtain rfl : g = f := funext hg
  refine Index.fold_slot s b fun a => (hs a).trans (if_congr ?_ rfl rfl)
  rw [hp.fold]
  exact hp.iff a

variable {x0 x1}
variable (H : Best.Lone (qx x0) (kx x1)) (b b' : Fin 8192 → Fin 512) (hb : ∀ n, Best.Peak (Spec.score (qx x0) (kx x1) n) (b n))
  (hb' : ∀ n, Best.Peak (Best.rest (qx x0) (kx x1) n) (b' n))

include H hb

/-- The gathering index is the best slot. -/
theorem v46_eq (n : Fin 8192) : val_main_v46 (F := Ideal) x0 x1 (ix1 n : S8192.Idx) = BitVec.ofNat 32 (b n).val :=
  (v46_raw x0 x1 n).trans (slot_of _ _ _ (b n) (fun a => v33_at x0 x1 n a) (H.ssm n (b n) (hb n)) (fun a => v45_raw x0 x1 n a))

/-- The softmax value at each pixel's best slot. -/
theorem v62_at (n : Fin 8192) : val_main_v62 (F := Ideal) x0 x1 (ix1 n : S8192.Idx) = Spec.ssq (qx x0) (kx x1) n (b n) := by
  unfold val_main_v62
  exact (Index.gather_pair _ rfl rfl rfl rfl _ _ n n (b n) ((v61_0 x0 x1 n).trans (wrap53 n))
    ((v61_1 x0 x1 n).trans (wrap58 x0 x1 (b n) n (v46_eq H b hb n))) (by decide) (by decide)).trans (v22_at x0 x1 n (b n))

/-- The largest softmax value of each pixel's best slot. -/
theorem v69_at (n : Fin 8192) : val_main_v69 (F := Ideal) x0 x1 (ix1 n : S8192.Idx)
    = Finset.univ.fold max (Ideal.ofBits .f32 4286578688#32) fun j : Fin 8192 => Spec.ssq (qx x0) (kx x1) j (b n) := by
  unfold val_main_v69
  refine (Routing.gather_take1 _ rfl rfl rfl rfl _ _ n (b n) ((v68_raw x0 x1 n).trans (wrap67 x0 x1 (b n) n (v46_eq H b hb n))) (by decide)).trans
    ((v47_raw x0 x1 (b n)).trans ?_)
  exact congrArg (fun f => Finset.univ.fold max (Ideal.ofBits .f32 4286578688#32) f) (funext fun j => v22_at x0 x1 j (b n))

/-- The weighted normalised query. -/
theorem v74_at (n : Fin 8192) (d : Fin 512) : val_main_v74 (F := Ideal) x0 x1 (ix2 n d : S8192x512.Idx)
    = Best.wt (qx x0) (kx x1) n (b n) * Spec.qn (qx x0) n d := by
  refine (v74_raw x0 x1 n d).trans (congrArg₂ (· * ·) ((v70_raw x0 x1 n).trans ?_) (v34_at x0 n d))
  exact (congrArg₂ Ideal.div (v62_at H b hb n) (v69_at H b hb n)).trans (H.ratio n (b n))

/-- The scattered sum. -/
theorem v81_at (a d : Fin 512) : val_main_v81 (F := Ideal) x0 x1 (ix2 a d : S512x512.Idx) = Best.acc (qx x0) (kx x1) b a d := by
  unfold val_main_v81
  refine (Index.scatter_rows _ rfl rfl rfl rfl _ _ _ b (fun n => (v80_raw x0 x1 n).trans (wrap79 x0 x1 (b n) n (v46_eq H b hb n))) (by decide) a d).trans ?_
  refine ((congrArg₂ (· + ·) (v71_raw a d) (Finset.sum_congr rfl fun n _ => ?_)).trans (zero_add _) : _ = Best.acc (qx x0) (kx x1) b a d)
  by_cases h : b n = a
  · rw [if_pos h, if_pos h, ← h]
    exact v74_at H b hb n d
  · rw [if_neg h, if_neg h]

/-- Result 2: the updated memory. -/
theorem v90_at (a d : Fin 512) : val_main_v90 (F := Ideal) x0 x1 (ix2 a d : S512x512.Idx) = Best.um (qx x0) (kx x1) b a d := by
  have h82 : ∀ e : Fin 512, val_main_v82 (F := Ideal) x0 x1 (ix2 a e : S512x512.Idx) = (Best.acc (qx x0) (kx x1) b a e + kx x1 a e : EReal) := fun e =>
    (v82_raw x0 x1 a e).trans (congrArg₂ (· + ·) (v81_at H b hb a e) rfl)
  refine (v90_raw x0 x1 a d).trans ?_
  rw [v84_raw]
  exact Best.um_of _ _ b a d (fun e => val_main_v82 (F := Ideal) x0 x1 (ix2 a e : S512x512.Idx)) h82

/-- The key of each pixel's best slot. -/
theorem v97_at (n : Fin 8192) (d : Fin 512) : val_main_v97 (F := Ideal) x0 x1 (ix2 n d : S8192x512.Idx) = kx x1 (b n) d := by
  unfold val_main_v97
  exact Routing.gather_row _ rfl rfl rfl rfl rfl _ _ n d (b n) ((v96_raw x0 x1 n).trans (wrap95 x0 x1 (b n) n (v46_eq H b hb n))) (by decide)

omit H hb in
/-- A sum of squared differences, entry by entry. -/
theorem sq_sum (f g f' g' : Fin 512 → EReal) (hf : ∀ d, f d = f' d) (hg : ∀ d, g d = g' d) : (∑ d, (f d - g d) * (f d - g d)) = ∑ d, (f' d - g' d) * (f' d - g' d) := by
  obtain rfl : f = f' := funext hf
  obtain rfl : g = g' := funext hg
  rfl

/-- Result 5: the gathering loss. -/
theorem v134_at : val_main_v134 (F := Ideal) x0 x1 (ix2 0 0 : S1x1.Idx)
    = Ideal.div (∑ n, Best.dist (qx x0) (kx x1) n (b n)) (Ideal.ofBits .f32 1249902592#32) := by
  refine (v134_raw x0 x1).trans (congrArg₂ Ideal.div (Finset.sum_congr rfl fun n _ => ?_) rfl)
  exact sq_sum _ _ _ _ (fun d => v34_at x0 n d) (fun d => v97_at H b hb n d)

include hb'

/-- The second gathering index is the best slot of the rest. -/
theorem v111_eq (n : Fin 8192) : val_main_v111 (F := Ideal) x0 x1 (ix1 n : S8192.Idx) = BitVec.ofNat 32 (b' n).val := by
  refine (v111_raw x0 x1 n).trans (slot_of _ _ _ (b' n) (fun a => ?_) (H.ssm_rest n (b n) (b' n) (hb n) (hb' n)) (fun a => v110_raw x0 x1 n a))
  refine (v105_raw x0 x1 n a).trans ?_
  rw [v46_eq H b hb n, Index.slot_cmp, Best.negInf, v33_at]

/-- The key of each pixel's second best slot. -/
theorem v118_at (n : Fin 8192) (d : Fin 512) : val_main_v118 (F := Ideal) x0 x1 (ix2 n d : S8192x512.Idx) = kx x1 (b' n) d := by
  unfold val_main_v118
  exact Routing.gather_row _ rfl rfl rfl rfl rfl _ _ n d (b' n) ((v117_raw x0 x1 n).trans (wrap116 x0 x1 (b' n) n (v111_eq H b b' hb hb' n))) (by decide)

/-- The hinge of a pixel. -/
theorem v131_at (n : Fin 8192) : val_main_v131 (F := Ideal) x0 x1 (ix1 n : S8192.Idx)
    = max (Ideal.sqrt (Best.dist (qx x0) (kx x1) n (b n)) - Ideal.sqrt (Best.dist (qx x0) (kx x1) n (b' n)) + 1) 0 := by
  have h1 : val_main_v121 (F := Ideal) x0 x1 (ix1 n : S8192.Idx) = Best.dist (qx x0) (kx x1) n (b n) :=
    (v121_raw x0 x1 n).trans (sq_sum _ _ _ _ (fun d => v34_at x0 n d) (fun d => v97_at H b hb n d))
  have h2 : val_main_v125 (F := Ideal) x0 x1 (ix1 n : S8192.Idx) = Best.dist (qx x0) (kx x1) n (b' n) :=
    (v125_raw x0 x1 n).trans (sq_sum _ _ _ _ (fun d => v34_at x0 n d) (fun d => v118_at H b b' hb hb' n d))
  refine (v131_raw x0 x1 n).trans ?_
  rw [h1, h2]

/-- Result 6: the spreading loss. -/
theorem v135_at : val_main_v135 (F := Ideal) x0 x1 (ix2 0 0 : S1x1.Idx)
    = Ideal.div (∑ n, max (Ideal.sqrt (Best.dist (qx x0) (kx x1) n (b n)) - Ideal.sqrt (Best.dist (qx x0) (kx x1) n (b' n)) + 1) 0) (Ideal.ofBits .f32 1174405120#32) :=
  (v135_raw x0 x1).trans (congrArg₂ Ideal.div (Finset.sum_congr rfl fun n _ => v131_at H b b' hb hb' n) rfl)

end Cert.ReferenceIdeal.Hand
end
-- ==== Proof.ValueG.lean ====
module

public import proofs.«01_k».proof.Proof.ValueI
public import proofs.«01_k».proof.Proof.PayG
public import proofs.«01_k».proof.Proof.RefG
public import Idealize.ShloMosaic.Lib.Pointwise.Sums

@[expose] public section

set_option maxRecDepth 16384

noncomputable section

/-! The kernel's updated memory and its two losses, where every pixel has one best slot. -/

namespace Cert.KernelIdeal.Hand

open Idealize.ShloMosaic Idealize.ShloMosaic.TcCoe Idealize.SL.Sem
open Cert.KernelIdeal Cert.KernelIdeal.Gen

/-- The selection of the entries that equal the maximum is the selection of the one best entry. -/
theorem sel (g f : Fin 512 → EReal) (b : Fin 512) (hg : ∀ a, g a = f a) (hp : Best.Peak f b) (a : Fin 512) :
    (if g a = Finset.univ.fold max (Ideal.ofBits .f32 4286578688#32) g then (1 : EReal) else 0) = if a = b then 1 else 0 := by
  obtain rfl : g = f := funext hg
  rw [hp.fold]
  exact if_congr (hp.iff a) rfl rfl

/-- Masking the entries that equal the maximum. -/
theorem maskd (g f : Fin 512 → EReal) (hg : ∀ a, g a = f a) (a : Fin 512) :
    (if g a = Finset.univ.fold max (Ideal.ofBits .f32 4286578688#32) g then (⊥ : EReal) else g a)
      = if f a = Finset.univ.fold max (Ideal.ofBits .f32 4286578688#32) f then (⊥ : EReal) else f a := by
  obtain rfl : g = f := funext hg
  rfl

/-- The maximum is the value at the one best entry. -/
theorem top (g f : Fin 512 → EReal) (b : Fin 512) (hg : ∀ a, g a = f a) (hp : Best.Peak f b) :
    Finset.univ.fold max (Ideal.ofBits .f32 4286578688#32) g = f b := by
  obtain rfl : g = f := funext hg
  exact hp.fold

/-- A selection of one slot picks that slot's entry. -/
theorem pick (g h f : Fin 512 → EReal) (b : Fin 512) (hg : ∀ a, g a = if a = b then 1 else 0) (hh : ∀ a, h a = f a) : (∑ a, g a * h a) = f b := by
  obtain rfl : h = f := funext hh
  exact (Finset.sum_congr rfl fun a _ => by rw [hg a]).trans (Best.pick b h)

/-- Eight steps of a sum. -/
theorem eight (f : ℕ → EReal) (g : Fin 8 → EReal) (h0 : f 0 = g 0) (hs : ∀ (n : ℕ) (h : n + 1 < 8), f (n + 1) = f n + g ⟨n + 1, h⟩) : f 7 = ∑ n, g n := by
  rw [Fin.sum_univ_eight, hs 6 (by omega), hs 5 (by omega), hs 4 (by omega), hs 3 (by omega), hs 2 (by omega), hs 1 (by omega), hs 0 (by omega), h0]
  rfl

/-- The sum over the blocks is the sum over the pixels. -/
theorem blocks (f : Fin 8192 → EReal) : (∑ n : Fin 8, ∑ p : Fin 1024, f (pix n p)) = ∑ j, f j := by
  rw [Fin.sum_univ_tiles 8 1024 rfl]
  rfl

variable (m : (ℓ : Loc nD τ sig) → Buf (Elt Ideal) ℓ) (c : Dev nD)

/-- The keys' squared norms. -/
theorem kn_at (a : Fin 512) : knAt m c (ix2 a 0 : S512x1.Idx) = Best.kn2 (km m c) a := by
  refine (pay15_raw _ a).trans ?_
  exact Finset.sum_congr rfl fun d _ => congrArg₂ (· * ·) (X1_at m c 0 a d) (X1_at m c 0 a d)

/-- The normalised query of a block of the second half. -/
theorem qT_at (n : Fin 8) (d : Fin 512) (p : Fin 1024) : k0_pay25 (F := Ideal) (X0 m c (n.val + 8)) (nAt m c n.val) (ix2 d p : S512x1024.Idx) = Spec.qn (qm m c) (pix n p) d := by
  refine (pay25_raw _ _ d p).trans ?_
  refine (congrArg₂ (· * ·) (X0_at m c (n.val + 8) (by omega) n (by omega) d p) (nAt_at m c n p)).trans ?_
  exact Online.mul_inv_eq_div _ _ (Online.clamp_pos _)

/-- The weights of a block. -/
theorem w_at (n : Fin 8) (a : Fin 512) (p : Fin 1024) : k0_pay32 (F := Ideal) (zAt m c n.val) (cmAt m c 7) (ix2 a p : S512x1024.Idx) = Best.wt (qm m c) (km m c) (pix n p) a := by
  refine (pay32_raw _ _ a p).trans ?_
  exact congrArg Ideal.exp (congrArg₂ (· - ·) (zAt_at m c n a p) (cm_at m c a))

/-- The scores without the best. -/
theorem rest_at (n : Fin 8) (a : Fin 512) (p : Fin 1024) : k0_pay36 (F := Ideal) (k0_pay26 (zAt m c n.val)) (k0_pay27 (zAt m c n.val)) (ix2 a p : S512x1024.Idx)
    = Best.rest (qm m c) (km m c) (pix n p) a :=
  (pay36_raw _ a p).trans (maskd (fun a => (zAt m c n.val (ix3 0 a p : S1x512x1024.Idx) : EReal)) (Spec.score (qm m c) (km m c) (pix n p)) (fun a => zAt_at m c n a p) a)

variable (b : Fin 8192 → Fin 512) (hb : ∀ n, Best.Peak (Spec.score (qm m c) (km m c) n) (b n))

include hb

/-- The selected slot of a pixel is its best slot. -/
theorem oh_at (n : Fin 8) (a : Fin 512) (p : Fin 1024) : k0_pay35 (F := Ideal) (k0_pay26 (zAt m c n.val)) (k0_pay27 (zAt m c n.val)) (ix2 a p : S512x1024.Idx)
    = if a = b (pix n p) then (1 : EReal) else 0 :=
  (pay35_raw _ a p).trans (sel (fun a => (zAt m c n.val (ix3 0 a p : S1x512x1024.Idx) : EReal)) _ _ (fun a => zAt_at m c n a p) (hb (pix n p)) a)

/-- The largest score of a pixel. -/
theorem rmax_at (n : Fin 8) (p : Fin 1024) : k0_pay27 (F := Ideal) (zAt m c n.val) (ix2 0 p : S1x1024.Idx) = Spec.score (qm m c) (km m c) (pix n p) (b (pix n p)) :=
  (pay27_raw _ p).trans (top (fun a => (zAt m c n.val (ix3 0 a p : S1x512x1024.Idx) : EReal)) _ _ (fun a => zAt_at m c n a p) (hb (pix n p)))

/-- The squared norm of the best slot. -/
theorem kn1_at (n : Fin 8) (p : Fin 1024) : k0_pay38 (F := Ideal) (k0_pay26 (zAt m c n.val)) (k0_pay27 (zAt m c n.val)) (knAt m c) (ix2 0 p : S1x1024.Idx)
    = Best.kn2 (km m c) (b (pix n p)) :=
  (pay38_raw _ _ p).trans (pick _ _ _ _ (fun a => oh_at m c b hb n a p) (fun a => kn_at m c a))

/-- The update of a block. -/
theorem block_at (n : Fin 8) (a d : Fin 512) :
    k0_pay5 (F := Ideal) (k0_pay25 (X0 m c (n.val + 8)) (nAt m c n.val)) (k0_pay32 (zAt m c n.val) (cmAt m c 7)) (k0_pay35 (k0_pay26 (zAt m c n.val)) (k0_pay27 (zAt m c n.val))) (ix2 a d : S512x512.Idx)
      = ∑ p : Fin 1024, if b (pix n p) = a then Best.wt (qm m c) (km m c) (pix n p) a * Spec.qn (qm m c) (pix n p) d else 0 := by
  refine (pay5_raw _ _ _ a d).trans (Finset.sum_congr rfl fun p _ => ?_)
  refine (congrArg₂ (· * ·) (congrArg₂ (· * ·) (oh_at m c b hb n a p) (pick _ _ _ _ (fun j => oh_at m c b hb n j p) fun j => w_at m c n j p)) (qT_at m c n d p)).trans ?_
  show (if a = b (pix n p) then (1 : EReal) else 0) * Best.wt (qm m c) (km m c) (pix n p) (b (pix n p)) * Spec.qn (qm m c) (pix n p) d = _
  by_cases h : b (pix n p) = a
  · rw [if_pos h, if_pos h.symm, h, one_mul]
  · rw [if_neg h, if_neg (Ne.symm h), zero_mul, zero_mul]

/-- The memory update after the last block. -/
theorem acc_at (a d : Fin 512) : accAt m c 7 (ix2 a d : S512x512.Idx) = Best.acc (qm m c) (km m c) b a d := by
  refine (eight (fun n => (accAt m c n (ix2 a d : S512x512.Idx) : EReal)) (fun n => ∑ p : Fin 1024, if b (pix n p) = a then Best.wt (qm m c) (km m c) (pix n p) a * Spec.qn (qm m c) (pix n p) d else 0) ?_ fun n h => ?_).trans
    (blocks fun j => if b j = a then Best.wt (qm m c) (km m c) j a * Spec.qn (qm m c) j d else 0)
  · exact (pay6_raw _ _ _ a d).trans (block_at m c b hb 0 a d)
  · exact (pay9_raw _ _ _ _ a d).trans (congrArg₂ (· + ·) rfl (block_at m c b hb ⟨n + 1, h⟩ a d))

/-- The updated memory. -/
theorem um_at (j : ℕ) (a d : Fin 512) : k0_pay14 (F := Ideal) (accAt m c 7) (X1 m c j) (ix2 a d : S512x512.Idx) = Best.um (qm m c) (km m c) b a d :=
  (pay14_raw _ _ a d).trans (Best.um_of (qm m c) (km m c) b a d
    (fun e => (accAt m c 7 (ix2 a e : S512x512.Idx) : EReal) + (X1 m c j (ix2 a e : S512x512.Idx) : EReal))
    fun e => congrArg₂ (· + ·) (acc_at m c b hb a e) (X1_at m c j a e))

variable (H : Best.Single (qm m c) (km m c))

include H

/-- The squared distances of a block. -/
theorem gblk_at (n : Fin 8) : gblk (F := Ideal) (zAt m c n.val) (knAt m c) = ∑ p : Fin 1024, Best.dist (qm m c) (km m c) (pix n p) (b (pix n p)) := by
  refine (gblk_raw _ _).trans (Finset.sum_congr rfl fun p _ => ?_)
  rw [kn1_at m c b hb n p, rmax_at m c b hb n p]
  exact H.dist_eq _ _

/-- The squared distances, added up. -/
theorem gl_at : glAt m c 7 (ix2 0 0 : S1x1.Idx) = ∑ n, Best.dist (qm m c) (km m c) n (b n) := by
  refine (eight (fun n => (glAt m c n (ix2 0 0 : S1x1.Idx) : EReal)) (fun n => ∑ p : Fin 1024, Best.dist (qm m c) (km m c) (pix n p) (b (pix n p))) ?_ fun n h => ?_).trans
    (blocks fun j => Best.dist (qm m c) (km m c) j (b j))
  · exact (pay7_raw _).trans (gblk_at m c b hb H 0)
  · exact (pay10_raw _ _).trans (congrArg₂ (· + ·) rfl (gblk_at m c b hb H ⟨n + 1, h⟩))

/-- The gathering loss. -/
theorem glOut_at : k0_pay12 (F := Ideal) (glAt m c 7) (ix2 0 0 : S1x1.Idx) = Ideal.div (∑ n, Best.dist (qm m c) (km m c) n (b n)) (Ideal.ofBits .f32 1249902592#32) := by
  refine (pay12_raw _).trans ?_
  rw [Best.entries, Ideal.div_coe (by norm_num), Best.entries_inv]
  exact congrArg₂ (· * ·) (gl_at m c b hb H) rfl

/-- The distance to the best slot. -/
theorem dap_at (n : Fin 8) (p : Fin 1024) : k0_pay41 (F := Ideal) (k0_pay26 (zAt m c n.val)) (k0_pay27 (zAt m c n.val)) (knAt m c) (ix2 0 p : S1x1024.Idx)
    = Ideal.sqrt (Best.dist (qm m c) (km m c) (pix n p) (b (pix n p))) := by
  refine (pay41_raw _ _ p).trans (congrArg Ideal.sqrt ?_)
  rw [kn1_at m c b hb n p, rmax_at m c b hb n p]
  exact H.dist_eq _ _

variable (b' : Fin 8192 → Fin 512) (hb' : ∀ n, Best.Peak (Best.rest (qm m c) (km m c) n) (b' n))

include hb'

omit H hb in
/-- The largest of the other scores. -/
theorem rmax2_rest (n : Fin 8) (p : Fin 1024) : k0_pay37 (F := Ideal) (k0_pay26 (zAt m c n.val)) (k0_pay27 (zAt m c n.val)) (ix2 0 p : S1x1024.Idx)
    = Best.rest (qm m c) (km m c) (pix n p) (b' (pix n p)) :=
  (pay37_raw _ p).trans (top _ _ _ (fun a => rest_at m c n a p) (hb' (pix n p)))

omit H in
/-- The largest of the other scores is the score of the next slot. -/
theorem rmax2_at (n : Fin 8) (p : Fin 1024) : k0_pay37 (F := Ideal) (k0_pay26 (zAt m c n.val)) (k0_pay27 (zAt m c n.val)) (ix2 0 p : S1x1024.Idx)
    = Spec.score (qm m c) (km m c) (pix n p) (b' (pix n p)) := by
  refine (rmax2_rest m c b' hb' n p).trans ?_
  rw [Best.rest_eq _ _ (hb (pix n p)), if_neg (Best.rest_ne _ _ _ (hb (pix n p)) (hb' (pix n p)))]

omit H hb in
/-- The squared norm of the next slot. -/
theorem kn2_at (n : Fin 8) (p : Fin 1024) : k0_pay39 (F := Ideal) (k0_pay26 (zAt m c n.val)) (k0_pay27 (zAt m c n.val)) (knAt m c) (ix2 0 p : S1x1024.Idx)
    = Best.kn2 (km m c) (b' (pix n p)) := by
  refine (pay39_raw _ _ p).trans (pick _ _ _ _ (fun a => ?_) (fun a => kn_at m c a))
  rw [rest_at m c n a p, rmax2_rest m c b' hb' n p]
  exact if_congr ((hb' (pix n p)).iff a) rfl rfl

/-- The hinges of a block. -/
theorem sblk_at (n : Fin 8) : k0_pay4 (F := Ideal) (k0_pay37 (k0_pay26 (zAt m c n.val)) (k0_pay27 (zAt m c n.val))) (k0_pay39 (k0_pay26 (zAt m c n.val)) (k0_pay27 (zAt m c n.val)) (knAt m c))
      (k0_pay41 (k0_pay26 (zAt m c n.val)) (k0_pay27 (zAt m c n.val)) (knAt m c)) (Scalar.ofBits .f32 0x3F800000#32)
    = ∑ p : Fin 1024, max (Ideal.sqrt (Best.dist (qm m c) (km m c) (pix n p) (b (pix n p))) - Ideal.sqrt (Best.dist (qm m c) (km m c) (pix n p) (b' (pix n p))) + 1) 0 := by
  refine (pay4_raw _ _ _).trans (Finset.sum_congr rfl fun p _ => ?_)
  rw [dap_at m c b hb H n p, kn2_at m c b' hb' n p, rmax2_at m c b hb b' hb' n p, H.dist_eq]

/-- The hinges, added up. -/
theorem sl_at : slAt m c 7 (ix2 0 0 : S1x1.Idx)
    = ∑ n, max (Ideal.sqrt (Best.dist (qm m c) (km m c) n (b n)) - Ideal.sqrt (Best.dist (qm m c) (km m c) n (b' n)) + 1) 0 := by
  refine (eight (fun n => (slAt m c n (ix2 0 0 : S1x1.Idx) : EReal))
    (fun n => ∑ p : Fin 1024, max (Ideal.sqrt (Best.dist (qm m c) (km m c) (pix n p) (b (pix n p))) - Ideal.sqrt (Best.dist (qm m c) (km m c) (pix n p) (b' (pix n p))) + 1) 0) ?_ fun n h => ?_).trans
    (blocks fun j => max (Ideal.sqrt (Best.dist (qm m c) (km m c) j (b j)) - Ideal.sqrt (Best.dist (qm m c) (km m c) j (b' j)) + 1) 0)
  · exact (pay8_raw _ _ _ _).trans (sblk_at m c b hb H b' hb' 0)
  · exact (pay11_raw _ _ _ _ _).trans (congrArg₂ (· + ·) rfl (sblk_at m c b hb H b' hb' ⟨n + 1, h⟩))

/-- The spreading loss. -/
theorem slOut_at : k0_pay13 (F := Ideal) (slAt m c 7) (ix2 0 0 : S1x1.Idx)
    = Ideal.div (∑ n, max (Ideal.sqrt (Best.dist (qm m c) (km m c) n (b n)) - Ideal.sqrt (Best.dist (qm m c) (km m c) n (b' n)) + 1) 0) (Ideal.ofBits .f32 1174405120#32) := by
  refine (pay13_raw _).trans ?_
  rw [Best.pixels, Ideal.div_coe (by norm_num), Best.pixels_inv]
  exact congrArg₂ (· * ·) (sl_at m c b hb H b' hb') rfl

omit hb' H hb

/-- Result 2: the updated memory. -/
theorem final_6 (H : Best.Lone (qm m c) (km m c)) : (dats m 0 c).arrAt 6 (cfgs 0).N
    = (Cert.ReferenceIdeal.Read.val_main_v90 (F := Ideal) (m ((c : Thread nD τ).loc main_arg0)) (m ((c : Thread nD τ).loc main_arg1)) : FVec Ideal S512x512 .f32) := by
  obtain ⟨b, hb⟩ : ∃ b : Fin 8192 → Fin 512, ∀ n, Best.Peak (Spec.score (qm m c) (km m c) n) (b n) := ⟨fun n => (H.peak n).choose, fun n => (H.peak n).choose_spec⟩
  refine (dats m 0 c).arrAt_eq_of_after_last 6 (pt 15) (by decide +kernel) _ fun y => ?_
  blk_simp
  rw [after0_6]
  idx_vars y
  refine (um_at m c b hb _ y0 y1).trans ?_
  exact (Cert.ReferenceIdeal.Hand.v90_at H b hb y0 y1).symm

/-- Result 5: the gathering loss. -/
theorem final_7 (H : Best.Single (qm m c) (km m c)) : (dats m 0 c).arrAt 7 (cfgs 0).N
    = (Cert.ReferenceIdeal.Read.val_main_v134 (F := Ideal) (m ((c : Thread nD τ).loc main_arg0)) (m ((c : Thread nD τ).loc main_arg1)) : FVec Ideal S1x1 .f32) := by
  obtain ⟨b, hb⟩ : ∃ b : Fin 8192 → Fin 512, ∀ n, Best.Peak (Spec.score (qm m c) (km m c) n) (b n) := ⟨fun n => (H.toLone.peak n).choose, fun n => (H.toLone.peak n).choose_spec⟩
  refine (dats m 0 c).arrAt_eq_of_after_last 7 (pt 15) (by decide +kernel) _ fun y => ?_
  blk_simp
  rw [after0_7]
  idx_vars y
  obtain rfl : y0 = 0 := Subsingleton.elim _ _
  obtain rfl : y1 = 0 := Subsingleton.elim _ _
  refine (glOut_at m c b hb H).trans ?_
  exact (Cert.ReferenceIdeal.Hand.v134_at H.toLone b hb).symm

/-- Result 6: the spreading loss. -/
theorem final_8 (H : Best.Single (qm m c) (km m c)) (H' : ∀ n, ∃ b', Best.Peak (Best.rest (qm m c) (km m c) n) b') : (dats m 0 c).arrAt 8 (cfgs 0).N
    = (Cert.ReferenceIdeal.Read.val_main_v135 (F := Ideal) (m ((c : Thread nD τ).loc main_arg0)) (m ((c : Thread nD τ).loc main_arg1)) : FVec Ideal S1x1 .f32) := by
  obtain ⟨b, hb⟩ : ∃ b : Fin 8192 → Fin 512, ∀ n, Best.Peak (Spec.score (qm m c) (km m c) n) (b n) := ⟨fun n => (H.toLone.peak n).choose, fun n => (H.toLone.peak n).choose_spec⟩
  obtain ⟨b', hb'⟩ : ∃ b' : Fin 8192 → Fin 512, ∀ n, Best.Peak (Best.rest (qm m c) (km m c) n) (b' n) := ⟨fun n => (H' n).choose, fun n => (H' n).choose_spec⟩
  refine (dats m 0 c).arrAt_eq_of_after_last 8 (pt 15) (by decide +kernel) _ fun y => ?_
  blk_simp
  rw [after0_8]
  idx_vars y
  obtain rfl : y0 = 0 := Subsingleton.elim _ _
  obtain rfl : y1 = 0 := Subsingleton.elim _ _
  refine (slOut_at m c b hb H b' hb').trans ?_
  exact (Cert.ReferenceIdeal.Hand.v135_at H.toLone b b' hb hb').symm

end Cert.KernelIdeal.Hand
end
-- ==== Proof.Pre.lean ====
module

public import proofs.«01_k».proof.Pre_lone_best
public import proofs.«01_k».proof.Pre_single_best
public import proofs.«01_k».proof.Pre_two_best
public import proofs.«01_k».proof.On_outright
public import proofs.«01_k».proof.On_updated
public import proofs.«01_k».proof.On_gathered
public import proofs.«01_k».proof.Proof.RefV
public import proofs.«01_k».proof.Proof.Dist
public import Idealize.ShloMosaic.Lib.ReduceAll

@[expose] public section

set_option maxRecDepth 16384

noncomputable section

/-! What the three preconditions say of the query and the memory. -/

namespace Cert.Best.Pre

open Idealize.ShloMosaic Idealize.ShloMosaic.TcCoe
open Cert.ReferenceIdeal Cert.ReferenceIdeal.Gen Cert.ReferenceIdeal.Read Cert.ReferenceIdeal.Hand

theorem absorbs : S512x512.ReducesTo [0, 1] S_ := by decide
theorem norms : S8x1x32x32.ReducesTo [0, 1, 2, 3] S_ := by decide
theorem wide : S_.BroadcastsInDim S8x1024x1024 (![] : Fin 0 → Fin S8x1024x1024.rank) := by decide
theorem one : S_.BroadcastsInDim S1x1 (![] : Fin 0 → Fin S1x1.rank) := by decide

/-- The side conditions of the first precondition. -/
theorem lone_facts : Cert.Pre_lone_best.Facts := {
  reducesTo_S8x512x32x32_S8x32x32_d1 := reducesTo_S8x512x32x32_S8x32x32_d1
  h_S_ := h_S_
  bcast_S8x32x32_S8x1x32x32_0_2_3 := bcast_S8x32x32_S8x1x32x32_0_2_3
  bcast_S_S8x1x32x32 := bcast_S_S8x1x32x32
  bcast_S8x1x32x32_S8x512x32x32_0_1_2_3 := bcast_S8x1x32x32_S8x512x32x32_0_1_2_3
  transposes_S8x512x32x32_S8x32x32x512_0_2_3_1 := transposes_S8x512x32x32_S8x32x32x512_0_2_3_1
  transposes_S512x512_S512x512_1_0 := transposes_S512x512_S512x512_1_0
  shapeCasts_S8x32x32x512_S8192x512 := shapeCasts_S8x32x32x512_S8192x512
  reducesTo_S8192x512_S8192_d1 := reducesTo_S8192x512_S8192_d1
  bcast_S8192_S8192x1_0 := bcast_S8192_S8192x1_0
  bcast_S8192x1_S8192x512_0_1 := bcast_S8192x1_S8192x512_0_1
  bcast_S_S8192x512 := bcast_S_S8192x512
  bcast_S_S512x512 := bcast_S_S512x512
  reducesTo_S512x512_S_d0_1 := absorbs
  bcast_S_S8192 := bcast_S_S8192
  reducesTo_S8192_S_d0 := reducesTo_S8192_S_d0
  dot_S8x32x32x512_S512x512_S8x32x32x512_3_0_012_1_n_n_wf := dot_S8x32x32x512_S512x512_S8x32x32x512_3_0_012_1_n_n.wf }

/-- The side conditions of the second precondition. -/
theorem single_facts : Cert.Pre_single_best.Facts := {
  reducesTo_S8x512x32x32_S8x32x32_d1 := reducesTo_S8x512x32x32_S8x32x32_d1
  h_S_ := h_S_
  bcast_S8x32x32_S8x1x32x32_0_2_3 := bcast_S8x32x32_S8x1x32x32_0_2_3
  bcast_S_S8x1x32x32 := bcast_S_S8x1x32x32
  bcast_S8x1x32x32_S8x512x32x32_0_1_2_3 := bcast_S8x1x32x32_S8x512x32x32_0_1_2_3
  transposes_S8x512x32x32_S8x32x32x512_0_2_3_1 := transposes_S8x512x32x32_S8x32x32x512_0_2_3_1
  transposes_S512x512_S512x512_1_0 := transposes_S512x512_S512x512_1_0
  shapeCasts_S8x32x32x512_S8192x512 := shapeCasts_S8x32x32x512_S8192x512
  reducesTo_S8192x512_S8192_d1 := reducesTo_S8192x512_S8192_d1
  bcast_S8192_S8192x1_0 := bcast_S8192_S8192x1_0
  bcast_S8192x1_S8192x512_0_1 := bcast_S8192x1_S8192x512_0_1
  bcast_S_S8192x512 := bcast_S_S8192x512
  bcast_S_S512x512 := bcast_S_S512x512
  reducesTo_S512x512_S_d0_1 := absorbs
  reducesTo_S8x1x32x32_S_d0_1_2_3 := norms
  bcast_S_S8192 := bcast_S_S8192
  reducesTo_S8192_S_d0 := reducesTo_S8192_S_d0
  dot_S8x32x32x512_S512x512_S8x32x32x512_3_0_012_1_n_n_wf := dot_S8x32x32x512_S512x512_S8x32x32x512_3_0_012_1_n_n.wf }

/-- The side conditions of the third precondition. -/
theorem two_facts : Cert.Pre_two_best.Facts := {
  reducesTo_S8x512x32x32_S8x32x32_d1 := reducesTo_S8x512x32x32_S8x32x32_d1
  h_S_ := h_S_
  bcast_S8x32x32_S8x1x32x32_0_2_3 := bcast_S8x32x32_S8x1x32x32_0_2_3
  bcast_S_S8x1x32x32 := bcast_S_S8x1x32x32
  bcast_S8x1x32x32_S8x512x32x32_0_1_2_3 := bcast_S8x1x32x32_S8x512x32x32_0_1_2_3
  transposes_S8x512x32x32_S8x32x32x512_0_2_3_1 := transposes_S8x512x32x32_S8x32x32x512_0_2_3_1
  transposes_S512x512_S512x512_1_0 := transposes_S512x512_S512x512_1_0
  shapeCasts_S8x32x32x512_S8192x512 := shapeCasts_S8x32x32x512_S8192x512
  reducesTo_S8192x512_S8192_d1 := reducesTo_S8192x512_S8192_d1
  bcast_S8192_S8192x1_0 := bcast_S8192_S8192x1_0
  bcast_S8192x1_S8192x512_0_1 := bcast_S8192x1_S8192x512_0_1
  bcast_S_S8192x512 := bcast_S_S8192x512
  bcast_S_S512x512 := bcast_S_S512x512
  reducesTo_S512x512_S_d0_1 := absorbs
  reducesTo_S8x1x32x32_S_d0_1_2_3 := norms
  bcast_S_S8192 := bcast_S_S8192
  reducesTo_S8192_S_d0 := reducesTo_S8192_S_d0
  dot_S8x32x32x512_S512x512_S8x32x32x512_3_0_012_1_n_n_wf := dot_S8x32x32x512_S512x512_S8x32x32x512_3_0_012_1_n_n.wf }

/-- The side conditions of the first choice of results. -/
theorem outright_facts : Cert.On_outright.Facts := ⟨wide, bcast_S_S512x512, bcast_S_S8192x512, one⟩

/-- The side conditions of the second choice of results. -/
theorem updated_facts : Cert.On_updated.Facts := ⟨wide, bcast_S_S512x512, bcast_S_S8192x512, one⟩

/-- The side conditions of the third choice of results. -/
theorem gathered_facts : Cert.On_gathered.Facts := ⟨wide, bcast_S_S512x512, bcast_S_S8192x512, one⟩

/-- The best score of every pixel, along the slots. -/
def best (s : FVec Ideal S8192x512 .f32) : FVec Ideal S8192x512 .f32 :=
  broadcastInDim S8192x512 ![0, 1] bcast_S8192x1_S8192x512_0_1 (broadcastInDim S8192x1 ![0] bcast_S8192_S8192x1_0
    (Host.reduce FloatOps.maximumf s (constant S_ .f32 0xFF800000#32) reducesTo_S8192x512_S8192_d1 h_S_))

/-- The number of slots that attain a pixel's best score. -/
def hits (s : FVec Ideal S8192x512 .f32) : FVec Ideal S8192 .f32 :=
  Host.reduceAdd (select (cmpf .oeq s (best s)) (broadcastInDim S8192x512 ![] bcast_S_S8192x512 (constant S_ .f32 0x3F800000#32))
    (broadcastInDim S8192x512 ![] bcast_S_S8192x512 (constant S_ .f32 0x00000000#32))) (constant S_ .f32 0x00000000#32) reducesTo_S8192x512_S8192_d1 h_S_

/-- The scores without those that equal the best. -/
def left (s : FVec Ideal S8192x512 .f32) : FVec Ideal S8192x512 .f32 :=
  select (cmpf .oeq s (best s)) (broadcastInDim S8192x512 ![] bcast_S_S8192x512 (constant S_ .f32 0xFF800000#32)) s

/-- Every key is below infinity. -/
def keysOk (x1 : FVec Ideal S512x512 .f32) : IVec S_ 1 :=
  Host.reduce IntOp.andi (cmpf .olt (Host.absf x1) (broadcastInDim S512x512 ![] bcast_S_S512x512 (constant S_ .f32 0x7F800000#32))) (constantI S_ 1 1#1) absorbs h_S_

/-- Every norm is at least the clamp. -/
def normsOk (y : FVec Ideal S8x1x32x32 .f32) : IVec S_ 1 :=
  Host.reduce IntOp.andi (cmpf .oge y (broadcastInDim S8x1x32x32 ![] bcast_S_S8x1x32x32 (constant S_ .f32 0x2B8CBCCC#32))) (constantI S_ 1 1#1) norms h_S_

/-- Every count is one. -/
def hitsOk (y : FVec Ideal S8192 .f32) : IVec S_ 1 :=
  Host.reduce IntOp.andi (cmpf .oeq y (broadcastInDim S8192 ![] bcast_S_S8192 (constant S_ .f32 0x3F800000#32))) (constantI S_ 1 1#1) reducesTo_S8192_S_d0 h_S_

variable (x0 : FVec Ideal S8x512x32x32 .f32) (x1 : FVec Ideal S512x512 .f32)

/-- The first precondition is two conditions. -/
theorem lone_eq : @Cert.Pre_lone_best.fn lone_facts Ideal _ x0 x1
    = andi (keysOk x1) (hitsOk (hits (val_main_v11 (F := Ideal) x0 x1))) := by
  unfold Cert.Pre_lone_best.fn Cert.Pre_lone_best.dot_S8x32x32x512_S512x512_S8x32x32x512_3_0_012_1_n_n Cert.Pre_lone_best.fn_part1 Cert.Pre_lone_best.fn_where keysOk hitsOk hits best
  unfold val_main_v11 val_main_v10 val_main_v9 val_main_v8 val_main_v7 val_main_v6 val_main_v5 val_main_v4 val_main_v3 val_main_v2 val_main_v1 val_main_v0 val_main_cst_0 val_main_cst
  unfold Cert.ReferenceIdeal.dot_S8x32x32x512_S512x512_S8x32x32x512_3_0_012_1_n_n
  rfl

/-- The second precondition is three conditions. -/
theorem single_eq : @Cert.Pre_single_best.fn single_facts Ideal _ x0 x1
    = andi (andi (keysOk x1) (normsOk (val_main_v3 (F := Ideal) x0))) (hitsOk (hits (val_main_v11 (F := Ideal) x0 x1))) := by
  unfold Cert.Pre_single_best.fn Cert.Pre_single_best.dot_S8x32x32x512_S512x512_S8x32x32x512_3_0_012_1_n_n Cert.Pre_single_best.fn_part1 Cert.Pre_single_best.fn_where keysOk normsOk hitsOk hits best
  unfold val_main_v11 val_main_v10 val_main_v9 val_main_v8 val_main_v7 val_main_v6 val_main_v5 val_main_v4 val_main_v3 val_main_v2 val_main_v1 val_main_v0 val_main_cst_0 val_main_cst
  unfold Cert.ReferenceIdeal.dot_S8x32x32x512_S512x512_S8x32x32x512_3_0_012_1_n_n
  rfl

/-- The third precondition is four. -/
theorem two_eq : @Cert.Pre_two_best.fn two_facts Ideal _ x0 x1
    = andi (andi (andi (keysOk x1) (normsOk (val_main_v3 (F := Ideal) x0))) (hitsOk (hits (val_main_v11 (F := Ideal) x0 x1)))) (hitsOk (hits (left (val_main_v11 (F := Ideal) x0 x1)))) := by
  unfold Cert.Pre_two_best.fn Cert.Pre_two_best.dot_S8x32x32x512_S512x512_S8x32x32x512_3_0_012_1_n_n Cert.Pre_two_best.fn_part1 Cert.Pre_two_best.fn_part2 Cert.Pre_two_best.fn_where Cert.Pre_two_best.fn_where_0 keysOk normsOk hitsOk hits left best
  unfold val_main_v11 val_main_v10 val_main_v9 val_main_v8 val_main_v7 val_main_v6 val_main_v5 val_main_v4 val_main_v3 val_main_v2 val_main_v1 val_main_v0 val_main_cst_0 val_main_cst
  unfold Cert.ReferenceIdeal.dot_S8x32x32x512_S512x512_S8x32x32x512_3_0_012_1_n_n
  rfl

/-- The best score, read. -/
theorem best_at (s : FVec Ideal S8192x512 .f32) (n : Fin 8192) (a : Fin 512) : best s (ix2 n a : S8192x512.Idx)
    = Finset.univ.fold max (Ideal.ofBits .f32 4286578688#32) fun j : Fin 512 => (show EReal from s (ix2 n j : S8192x512.Idx)) := by
  unfold best
  pointwise []

/-- An equality test that is one. -/
theorem eq_of_test (u v : EReal) (h : Ideal.cmp .oeq u v = 1#1) : u = v := by
  by_contra hn
  simp [Ideal.cmp, hn] at h

/-- The count of the slots that attain the best, read. -/
theorem hits_at (s : FVec Ideal S8192x512 .f32) (n : Fin 8192) : hits s (ix1 n : S8192.Idx)
    = ∑ a : Fin 512, if (show EReal from s (ix2 n a : S8192x512.Idx)) = (Finset.univ.fold max (Ideal.ofBits .f32 4286578688#32) fun j : Fin 512 => (show EReal from s (ix2 n j : S8192x512.Idx))) then (1 : EReal) else 0 := by
  have h : ∀ t : FVec Ideal S8192x512 .f32, Host.reduceAdd (F := Ideal) (select (cmpf .oeq s t) (broadcastInDim S8192x512 ![] bcast_S_S8192x512 (constant S_ .f32 0x3F800000#32))
      (broadcastInDim S8192x512 ![] bcast_S_S8192x512 (constant S_ .f32 0x00000000#32))) (constant S_ .f32 0x00000000#32) reducesTo_S8192x512_S8192_d1 h_S_ (ix1 n : S8192.Idx)
      = ∑ a : Fin 512, if (show EReal from s (ix2 n a : S8192x512.Idx)) = (show EReal from t (ix2 n a : S8192x512.Idx)) then (1 : EReal) else 0 := fun t => by
    pointwise []
  refine (h (best s)).trans (Finset.sum_congr rfl fun a _ => ?_)
  rw [best_at s n a]

/-- The scores without the best, read. -/
theorem left_at (s : FVec Ideal S8192x512 .f32) (n : Fin 8192) (a : Fin 512) : left s (ix2 n a : S8192x512.Idx)
    = if (show EReal from s (ix2 n a : S8192x512.Idx)) = (Finset.univ.fold max (Ideal.ofBits .f32 4286578688#32) fun j : Fin 512 => (show EReal from s (ix2 n j : S8192x512.Idx))) then Ideal.ofBits .f32 4286578688#32 else (s (ix2 n a : S8192x512.Idx) : EReal) := by
  rw [← best_at s n a]
  unfold left
  generalize best s = t
  pointwise []

/-- Keys below infinity are real. -/
theorem keys_real (h : keysOk x1 ix0 = 1#1) (a d : Fin 512) : ∃ r : ℝ, kx x1 a d = r := by
  have e := Host.reduce_andi_all _ _ _ _ _ h (ix2 a d : S512x512.Idx)
  have e' : max (kx x1 a d) (-kx x1 a d) < Ideal.ofBits .f32 0x7F800000#32 := by
    by_contra hn
    have : Ideal.cmp .olt (max (kx x1 a d) (-kx x1 a d)) (Ideal.ofBits .f32 0x7F800000#32) = 1#1 := e
    simp [Ideal.cmp, hn] at this
  have ht : Ideal.ofBits .f32 0x7F800000#32 = ⊤ := by simp [Ideal.ofBits, Ideal.ieee]
  rw [ht, max_lt_iff] at e'
  induction hk : kx x1 a d with
  | bot => rw [hk] at e'; simp at e'
  | top => rw [hk] at e'; simp at e'
  | coe r => exact ⟨r, rfl⟩

/-- The norm, read. -/
theorem norm_at (n : Fin 8192) : val_main_v3 (F := Ideal) x0 (ix4 ⟨n.val / 1024, by omega⟩ 0 ⟨n.val / 32 % 32, by omega⟩ ⟨n.val % 32, by omega⟩ : S8x1x32x32.Idx)
    = Ideal.sqrt (∑ d, qx x0 n d * qx x0 n d) := by
  have h : ∀ (b : Fin 8) (y w : Fin 32), val_main_v3 (F := Ideal) x0 (ix4 b 0 y w : S8x1x32x32.Idx)
      = Ideal.sqrt (∑ e : Fin 512, (show EReal from x0 (ix4 b e y w : S8x512x32x32.Idx)) * (show EReal from x0 (ix4 b e y w : S8x512x32x32.Idx))) := fun b y w => by
    pointwise [val_main_v3, val_main_v2, val_main_v1, val_main_v0, val_main_cst]
  exact h _ _ _

/-- The norms are at least the clamp. -/
theorem norms_le (h : normsOk (val_main_v3 (F := Ideal) x0) ix0 = 1#1) (n : Fin 8192) :
    Ideal.ofBits .f32 730643660#32 ≤ Ideal.sqrt (∑ d, qx x0 n d * qx x0 n d) := by
  rw [← norm_at]
  generalize val_main_v3 (F := Ideal) x0 = y at h
  have e := Host.reduce_andi_all _ _ _ _ _ h (ix4 ⟨n.val / 1024, by omega⟩ 0 ⟨n.val / 32 % 32, by omega⟩ ⟨n.val % 32, by omega⟩ : S8x1x32x32.Idx)
  by_contra hn
  have : Ideal.cmp .oge (y (ix4 ⟨n.val / 1024, by omega⟩ 0 ⟨n.val / 32 % 32, by omega⟩ ⟨n.val % 32, by omega⟩ : S8x1x32x32.Idx)) (Ideal.ofBits .f32 0x2B8CBCCC#32) = 1#1 := e
  simp [Ideal.cmp, hn] at this

/-- A count that is one says there is one best slot. -/
theorem peak (s : FVec Ideal S8192x512 .f32) (h : hitsOk (hits s) ix0 = 1#1) (n : Fin 8192) : ∃ b, Peak (fun a => (s (ix2 n a : S8192x512.Idx) : EReal)) b := by
  refine peak_of_hits _ ((hits_at s n).symm.trans ?_)
  generalize hits s = y at h
  have e := Host.reduce_andi_all _ _ _ _ _ h (ix1 n : S8192.Idx)
  have h1 : Ideal.ofBits .f32 0x3F800000#32 = (1 : EReal) := lit 1 0 (by decide) (by decide) (by decide) (by decide) (by decide) (by norm_num)
  rw [← h1]
  exact eq_of_test _ _ e

/-- The first two conditions. -/
theorem lone_of (hk : keysOk x1 ix0 = 1#1) (hh : hitsOk (hits (val_main_v11 (F := Ideal) x0 x1)) ix0 = 1#1) : Lone (qx x0) (kx x1) where
  fin := keys_real x1 hk
  peak n := by
    obtain ⟨b, hb⟩ := peak _ hh n
    refine ⟨b, fun a ha => ?_⟩
    rw [← v11_at, ← v11_at]
    exact hb a ha

/-- The three conditions. -/
theorem single_of (hk : keysOk x1 ix0 = 1#1) (hn : normsOk (val_main_v3 (F := Ideal) x0) ix0 = 1#1) (hh : hitsOk (hits (val_main_v11 (F := Ideal) x0 x1)) ix0 = 1#1) :
    Single (qx x0) (kx x1) := ⟨lone_of x0 x1 hk hh, norms_le x0 hn⟩

/-- The first precondition gives real keys and one best slot for every pixel. -/
theorem lone (h : @Cert.Pre_lone_best.fn lone_facts Ideal _ x0 x1 = fun _ => 1#1) : Lone (qx x0) (kx x1) := by
  rw [lone_eq] at h
  obtain ⟨e1, e2⟩ := IntOp.andi_eq_one.1 (congrFun h ix0)
  exact lone_of x0 x1 e1 e2

/-- The second precondition gives real keys, norms above the clamp and one best slot for every pixel. -/
theorem single (h : @Cert.Pre_single_best.fn single_facts Ideal _ x0 x1 = fun _ => 1#1) : Single (qx x0) (kx x1) := by
  rw [single_eq] at h
  have e := congrFun h ix0
  obtain ⟨e, e3⟩ := IntOp.andi_eq_one.1 e
  obtain ⟨e1, e2⟩ := IntOp.andi_eq_one.1 e
  exact single_of x0 x1 e1 e2 e3

/-- The third precondition gives the same, and one best slot among the others. -/
theorem two (h : @Cert.Pre_two_best.fn two_facts Ideal _ x0 x1 = fun _ => 1#1) :
    Single (qx x0) (kx x1) ∧ ∀ n, ∃ b', Peak (rest (qx x0) (kx x1) n) b' := by
  rw [two_eq] at h
  have e := congrFun h ix0
  obtain ⟨e, e4⟩ := IntOp.andi_eq_one.1 e
  obtain ⟨e, e3⟩ := IntOp.andi_eq_one.1 e
  obtain ⟨e1, e2⟩ := IntOp.andi_eq_one.1 e
  refine ⟨single_of x0 x1 e1 e2 e3, fun n => ?_⟩
  obtain ⟨b, hb⟩ := peak _ e4 n
  refine ⟨b, fun a ha => ?_⟩
  have hr : ∀ a, rest (qx x0) (kx x1) n a = left (val_main_v11 (F := Ideal) x0 x1) (ix2 n a : S8192x512.Idx) := fun a => by
    rw [left_at, rest, Spec.pmax]
    simp only [v11_at, negInf]
  rw [hr, hr]
  exact hb a ha

end Cert.Best.Pre
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameI
public import proofs.«01_k».proof.Proof.FrameK
public import proofs.«01_k».proof.Proof.ValueI
public import proofs.«01_k».proof.Proof.ValueG
public import proofs.«01_k».proof.Proof.Pre
public import Idealize.ShloMosaic.Lib.Claim
public import Idealize.ShloMosaic.Adequacy
public import Idealize.ShloMosaic.Init

@[expose] public section

noncomputable section

namespace Cert.ReferenceIdeal.Hand

open Cert.ReferenceIdeal Idealize.ShloMosaic Idealize.ShloMosaic.TcCoe Idealize.SL.Sem Idealize.ShloMosaic.StableHlo

variable {F : FTy → Type} [FloatOps F]

/-- The reference's run leaves both arguments as they were, and the program has no semaphore to leave raised. -/
theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c => ⟨(h c).2.2.2.2.2.2.1, (h c).2.2.2.2.2.2.2⟩, sem_eq_zero_of_no_sems rfl r.2⟩)
    (Value.run m g)

set_option maxRecDepth 8192 in
/-- The reference's run ends with each result at the term of its two arguments that names it. -/
theorem run_values (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v39) = Read.val_main_v39 (F := F) (m ((c.tc : Thread nD τ).loc main_arg0)) (m ((c.tc : Thread nD τ).loc main_arg1))
      ∧ r.2.mem ((c.tc : Thread nD τ).loc main_v90) = Read.val_main_v90 (F := F) (m ((c.tc : Thread nD τ).loc main_arg0)) (m ((c.tc : Thread nD τ).loc main_arg1))
      ∧ r.2.mem ((c.tc : Thread nD τ).loc main_v22) = Read.val_main_v22 (F := F) (m ((c.tc : Thread nD τ).loc main_arg0)) (m ((c.tc : Thread nD τ).loc main_arg1))
      ∧ r.2.mem ((c.tc : Thread nD τ).loc main_v33) = Read.val_main_v33 (F := F) (m ((c.tc : Thread nD τ).loc main_arg0)) (m ((c.tc : Thread nD τ).loc main_arg1))
      ∧ r.2.mem ((c.tc : Thread nD τ).loc main_v134) = Read.val_main_v134 (F := F) (m ((c.tc : Thread nD τ).loc main_arg0)) (m ((c.tc : Thread nD τ).loc main_arg1))
      ∧ r.2.mem ((c.tc : Thread nD τ).loc main_v135) = Read.val_main_v135 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨
      (h c).1.trans (Read.val_main_v39_eq (launchContents m c)),
      (h c).2.1.trans (Read.val_main_v90_eq (launchContents m c)),
      (h c).2.2.1.trans (Read.val_main_v22_eq (launchContents m c)),
      (h c).2.2.2.1.trans (Read.val_main_v33_eq (launchContents m c)),
      (h c).2.2.2.2.1.trans (Read.val_main_v134_eq (launchContents m c)),
      (h c).2.2.2.2.2.1.trans (Read.val_main_v135_eq (launchContents m c)),
      (h c).2.2.2.2.2.2⟩)
    (Value.run m g)

end Cert.ReferenceIdeal.Hand

namespace Cert.Proof

open Idealize.ShloMosaic Idealize.SL.Sem Cert.Kernel

/-- Results 1, 3 and 4 of the kernel are the reference's, whatever the arguments. -/
theorem outright : Cert.algebraic_KernelIdeal_ReferenceIdeal_on_outright (hKernelIdeal := Cert.KernelIdeal.Gen.facts) (hReferenceIdeal := Cert.ReferenceIdeal.Gen.facts) (hOn_outright := Cert.Best.Pre.outright_facts) := by
  intro m g m' g' _ hagree
  refine ⟨fun c => Cert.ReferenceIdeal.Read.val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v135 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    (θ_run _ _ _).mono (fun r h c => ⟨fun i _ => congrFun (((h.1 c).1 3).trans ((Cert.KernelIdeal.Hand.final_3 m c).trans (congrArg₂ (Cert.ReferenceIdeal.Read.val_main_v39 (F := Ideal)) (hagree c).1.symm (hagree c).2.symm))) i,
      fun i hi => absurd (show (0#1 : BitVec 1) = 1#1 from hi) (by decide),
      fun i _ => congrFun (((h.1 c).1 5).trans ((Cert.KernelIdeal.Hand.final_5 m c).trans (congrArg₂ (Cert.ReferenceIdeal.Read.val_main_v22 (F := Ideal)) (hagree c).1.symm (hagree c).2.symm))) i,
      fun i _ => congrFun (((h.1 c).1 4).trans ((Cert.KernelIdeal.Hand.final_4 m c).trans (congrArg₂ (Cert.ReferenceIdeal.Read.val_main_v33 (F := Ideal)) (hagree c).1.symm (hagree c).2.symm))) i,
      fun i hi => absurd (show (0#1 : BitVec 1) = 1#1 from hi) (by decide),
      fun i hi => absurd (show (0#1 : BitVec 1) = 1#1 from hi) (by decide),
      (h.2.1 c).1, (h.2.1 c).2⟩)
      (θ_run_and (Cert.KernelIdeal.Hand.run_main m g) (Cert.KernelIdeal.Hand.frame m g)),
    (θ_run _ _ _).mono (fun r h c => ⟨fun i _ => congrFun (h c).1 i,
      fun i hi => absurd (show (0#1 : BitVec 1) = 1#1 from hi) (by decide),
      fun i _ => congrFun (h c).2.2.1 i,
      fun i _ => congrFun (h c).2.2.2.1 i,
      fun i hi => absurd (show (0#1 : BitVec 1) = 1#1 from hi) (by decide),
      fun i hi => absurd (show (0#1 : BitVec 1) = 1#1 from hi) (by decide),
      (h c).2.2.2.2.2.2⟩)
      (Cert.ReferenceIdeal.Hand.run_values m' g')⟩

/-- Where the keys are finite and one slot alone attains each pixel's best score, results 1 to 4 of the kernel are the reference's. -/
theorem updated : Cert.algebraic_KernelIdeal_ReferenceIdeal_on_updated_pre_lone_best (hKernelIdeal := Cert.KernelIdeal.Gen.facts) (hReferenceIdeal := Cert.ReferenceIdeal.Gen.facts) (hPre_lone_best := Cert.Best.Pre.lone_facts) (hOn_updated := Cert.Best.Pre.updated_facts) := by
  intro m g m' g' hpre hagree
  refine ⟨fun c => Cert.ReferenceIdeal.Read.val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v135 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    (θ_run _ _ _).mono (fun r h c => ⟨fun i _ => congrFun (((h.1 c).1 3).trans ((Cert.KernelIdeal.Hand.final_3 m c).trans (congrArg₂ (Cert.ReferenceIdeal.Read.val_main_v39 (F := Ideal)) (hagree c).1.symm (hagree c).2.symm))) i,
      fun i _ => congrFun (((h.1 c).1 6).trans ((Cert.KernelIdeal.Hand.final_6 m c (Cert.Best.Pre.lone _ _ (hpre c))).trans (congrArg₂ (Cert.ReferenceIdeal.Read.val_main_v90 (F := Ideal)) (hagree c).1.symm (hagree c).2.symm))) i,
      fun i _ => congrFun (((h.1 c).1 5).trans ((Cert.KernelIdeal.Hand.final_5 m c).trans (congrArg₂ (Cert.ReferenceIdeal.Read.val_main_v22 (F := Ideal)) (hagree c).1.symm (hagree c).2.symm))) i,
      fun i _ => congrFun (((h.1 c).1 4).trans ((Cert.KernelIdeal.Hand.final_4 m c).trans (congrArg₂ (Cert.ReferenceIdeal.Read.val_main_v33 (F := Ideal)) (hagree c).1.symm (hagree c).2.symm))) i,
      fun i hi => absurd (show (0#1 : BitVec 1) = 1#1 from hi) (by decide),
      fun i hi => absurd (show (0#1 : BitVec 1) = 1#1 from hi) (by decide),
      (h.2.1 c).1, (h.2.1 c).2⟩)
      (θ_run_and (Cert.KernelIdeal.Hand.run_main m g) (Cert.KernelIdeal.Hand.frame m g)),
    (θ_run _ _ _).mono (fun r h c => ⟨fun i _ => congrFun (h c).1 i,
      fun i _ => congrFun (h c).2.1 i,
      fun i _ => congrFun (h c).2.2.1 i,
      fun i _ => congrFun (h c).2.2.2.1 i,
      fun i hi => absurd (show (0#1 : BitVec 1) = 1#1 from hi) (by decide),
      fun i hi => absurd (show (0#1 : BitVec 1) = 1#1 from hi) (by decide),
      (h c).2.2.2.2.2.2⟩)
      (Cert.ReferenceIdeal.Hand.run_values m' g')⟩

/-- Where moreover no norm is clamped, results 1 to 5 of the kernel are the reference's. -/
theorem gathered : Cert.algebraic_KernelIdeal_ReferenceIdeal_on_gathered_pre_single_best (hKernelIdeal := Cert.KernelIdeal.Gen.facts) (hReferenceIdeal := Cert.ReferenceIdeal.Gen.facts) (hPre_single_best := Cert.Best.Pre.single_facts) (hOn_gathered := Cert.Best.Pre.gathered_facts) := by
  intro m g m' g' hpre hagree
  refine ⟨fun c => Cert.ReferenceIdeal.Read.val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v135 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    (θ_run _ _ _).mono (fun r h c => ⟨fun i _ => congrFun (((h.1 c).1 3).trans ((Cert.KernelIdeal.Hand.final_3 m c).trans (congrArg₂ (Cert.ReferenceIdeal.Read.val_main_v39 (F := Ideal)) (hagree c).1.symm (hagree c).2.symm))) i,
      fun i _ => congrFun (((h.1 c).1 6).trans ((Cert.KernelIdeal.Hand.final_6 m c (Cert.Best.Pre.single _ _ (hpre c)).toLone).trans (congrArg₂ (Cert.ReferenceIdeal.Read.val_main_v90 (F := Ideal)) (hagree c).1.symm (hagree c).2.symm))) i,
      fun i _ => congrFun (((h.1 c).1 5).trans ((Cert.KernelIdeal.Hand.final_5 m c).trans (congrArg₂ (Cert.ReferenceIdeal.Read.val_main_v22 (F := Ideal)) (hagree c).1.symm (hagree c).2.symm))) i,
      fun i _ => congrFun (((h.1 c).1 4).trans ((Cert.KernelIdeal.Hand.final_4 m c).trans (congrArg₂ (Cert.ReferenceIdeal.Read.val_main_v33 (F := Ideal)) (hagree c).1.symm (hagree c).2.symm))) i,
      fun i _ => congrFun (((h.1 c).1 7).trans ((Cert.KernelIdeal.Hand.final_7 m c (Cert.Best.Pre.single _ _ (hpre c))).trans (congrArg₂ (Cert.ReferenceIdeal.Read.val_main_v134 (F := Ideal)) (hagree c).1.symm (hagree c).2.symm))) i,
      fun i hi => absurd (show (0#1 : BitVec 1) = 1#1 from hi) (by decide),
      (h.2.1 c).1, (h.2.1 c).2⟩)
      (θ_run_and (Cert.KernelIdeal.Hand.run_main m g) (Cert.KernelIdeal.Hand.frame m g)),
    (θ_run _ _ _).mono (fun r h c => ⟨fun i _ => congrFun (h c).1 i,
      fun i _ => congrFun (h c).2.1 i,
      fun i _ => congrFun (h c).2.2.1 i,
      fun i _ => congrFun (h c).2.2.2.1 i,
      fun i _ => congrFun (h c).2.2.2.2.1 i,
      fun i hi => absurd (show (0#1 : BitVec 1) = 1#1 from hi) (by decide),
      (h c).2.2.2.2.2.2⟩)
      (Cert.ReferenceIdeal.Hand.run_values m' g')⟩

/-- Where moreover one slot alone attains the best score of the others, all six results of the kernel are the reference's. -/
theorem whole : Cert.algebraic_KernelIdeal_ReferenceIdeal_pre_two_best (hKernelIdeal := Cert.KernelIdeal.Gen.facts) (hReferenceIdeal := Cert.ReferenceIdeal.Gen.facts) (hPre_two_best := Cert.Best.Pre.two_facts) := by
  intro m g m' g' hpre hagree
  refine ⟨fun c => Cert.ReferenceIdeal.Read.val_main_v39 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v90 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v22 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v134 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    fun c => Cert.ReferenceIdeal.Read.val_main_v135 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)),
    (θ_run _ _ _).mono (fun r h c => ⟨((h.1 c).1 3).trans ((Cert.KernelIdeal.Hand.final_3 m c).trans (congrArg₂ (Cert.ReferenceIdeal.Read.val_main_v39 (F := Ideal)) (hagree c).1.symm (hagree c).2.symm)),
      ((h.1 c).1 6).trans ((Cert.KernelIdeal.Hand.final_6 m c (Cert.Best.Pre.two _ _ (hpre c)).1.toLone).trans (congrArg₂ (Cert.ReferenceIdeal.Read.val_main_v90 (F := Ideal)) (hagree c).1.symm (hagree c).2.symm)),
      ((h.1 c).1 5).trans ((Cert.KernelIdeal.Hand.final_5 m c).trans (congrArg₂ (Cert.ReferenceIdeal.Read.val_main_v22 (F := Ideal)) (hagree c).1.symm (hagree c).2.symm)),
      ((h.1 c).1 4).trans ((Cert.KernelIdeal.Hand.final_4 m c).trans (congrArg₂ (Cert.ReferenceIdeal.Read.val_main_v33 (F := Ideal)) (hagree c).1.symm (hagree c).2.symm)),
      ((h.1 c).1 7).trans ((Cert.KernelIdeal.Hand.final_7 m c ((Cert.Best.Pre.two _ _ (hpre c)).1)).trans (congrArg₂ (Cert.ReferenceIdeal.Read.val_main_v134 (F := Ideal)) (hagree c).1.symm (hagree c).2.symm)),
      ((h.1 c).1 8).trans ((Cert.KernelIdeal.Hand.final_8 m c ((Cert.Best.Pre.two _ _ (hpre c)).1) ((Cert.Best.Pre.two _ _ (hpre c)).2)).trans (congrArg₂ (Cert.ReferenceIdeal.Read.val_main_v135 (F := Ideal)) (hagree c).1.symm (hagree c).2.symm)),
      (h.2.1 c).1, (h.2.1 c).2⟩)
      (θ_run_and (Cert.KernelIdeal.Hand.run_main m g) (Cert.KernelIdeal.Hand.frame m g)),
    Cert.ReferenceIdeal.Hand.run_values m' g'⟩

/-- The certificate. -/
theorem claim : Cert.Claim := ⟨Cert.Kernel.Gen.facts, Cert.KernelIdeal.Gen.facts, Cert.ReferenceIdeal.Gen.facts,
  Cert.Best.Pre.lone_facts, Cert.Best.Pre.single_facts, Cert.Best.Pre.two_facts, Cert.Best.Pre.outright_facts, Cert.Best.Pre.updated_facts, Cert.Best.Pre.gathered_facts,
  fun m g _ => Cert.Kernel.Hand.frame m g,
  fun m g _ => Cert.KernelIdeal.Hand.frame m g,
  fun m g _ => Cert.KernelIdeal.Hand.frame m g,
  fun m g _ => Cert.KernelIdeal.Hand.frame m g,
  fun m g _ => Cert.KernelIdeal.Hand.frame m g,
  fun m g _ => Cert.ReferenceIdeal.Hand.frame m g,
  fun m g _ => Cert.ReferenceIdeal.Hand.frame m g,
  fun m g _ => Cert.ReferenceIdeal.Hand.frame m g,
  fun m g _ => Cert.ReferenceIdeal.Hand.frame m g,
  IdealRules.named_const.statement Cert.KernelIdeal.κ "mask" .f32 0xF149F2CA#32 ⊥ rfl,
  outright, updated, gathered, whole⟩

end Cert.Proof

end
